-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_offsets [hPre_sorted_offsets : Cert.Pre_sorted_offsets.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_offsets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_offsets [hPre_sorted_offsets : Cert.Pre_sorted_offsets.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_offsets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sorted_offsets [hKernelIdeal : Cert.KernelIdeal.Facts] [hPre_sorted_offsets : Cert.Pre_sorted_offsets.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_offsets m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sorted_offsets [hReferenceIdeal : Cert.ReferenceIdeal.Facts] [hPre_sorted_offsets : Cert.Pre_sorted_offsets.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_offsets m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sorted_offsets [hKernelIdeal : Cert.KernelIdeal.Facts] [hReferenceIdeal : Cert.ReferenceIdeal.Facts] [hPre_sorted_offsets : Cert.Pre_sorted_offsets.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_offsets m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sorted_offsets : Cert.Pre_sorted_offsets.Facts),
    quiescent_Kernel (hKernel := hKernel)
    ∧ quiescent_KernelIdeal (hKernelIdeal := hKernelIdeal)
    ∧ quiescent_KernelIdeal_pre_sorted_offsets (hKernelIdeal := hKernelIdeal) (hPre_sorted_offsets := hPre_sorted_offsets)
    ∧ quiescent_ReferenceIdeal (hReferenceIdeal := hReferenceIdeal)
    ∧ quiescent_ReferenceIdeal_pre_sorted_offsets (hReferenceIdeal := hReferenceIdeal) (hPre_sorted_offsets := hPre_sorted_offsets)
    ∧ preserves_Kernel_KernelIdeal
    ∧ algebraic_KernelIdeal_ReferenceIdeal_pre_sorted_offsets (hKernelIdeal := hKernelIdeal) (hReferenceIdeal := hReferenceIdeal) (hPre_sorted_offsets := hPre_sorted_offsets)
-- ==== Pre_sorted_offsets.lean ====
abbrev S8x32768x128 : Shape := ⟨3, ![8, 32768, 128]⟩
abbrev S17 : Shape := ⟨1, ![17]⟩
abbrev S_ : Shape := ⟨0, ![]⟩
abbrev S16 : Shape := ⟨1, ![16]⟩

class Facts : Prop where
  bcast_S_S17 : S_.BroadcastsInDim S17 (![] : Fin 0 → Fin S17.rank)
  reducesTo_S17_S_d0 : S17.ReducesTo [0] S_
  h_S_ : 0 < S_.numel
  slices_S17_S16_0 : S17.Slices ![0] S16
  slices_S17_S16_1 : S17.Slices ![1] S16
  reducesTo_S16_S_d0 : S16.ReducesTo [0] S_

variable [Facts]

def fn {F : FTy → Type} [FloatOps F] (main_arg0 : FVec F S8x32768x128 .f32) (main_arg1 : FVec F S8x32768x128 .f32) (main_arg2 : IVec S17 32) : IVec S_ 1 :=
  let main_c : IVec S_ 32 := constantI S_ 32 0#32
  let main_v0 : IVec S17 32 := broadcastInDim S17 ![] bcast_S_S17 main_c
  let main_v1 : IVec S17 1 := cmpi .sge main_arg2 main_v0
  let main_c_0 : IVec S_ 1 := constantI S_ 1 1#1
  let main_v2 : IVec S_ 1 := (fun x v => Host.reduce IntOp.andi x v reducesTo_S17_S_d0 h_S_) main_v1 main_c_0
  let main_v3 : IVec S16 32 := (extractStridedSlice S16 ![0] · slices_S17_S16_0) main_arg2
  let main_v4 : IVec S16 32 := (extractStridedSlice S16 ![1] · slices_S17_S16_1) main_arg2
  let main_v5 : IVec S16 1 := cmpi .sle main_v3 main_v4
  let main_c_1 : IVec S_ 1 := constantI S_ 1 1#1
  let main_v6 : IVec S_ 1 := (fun x v => Host.reduce IntOp.andi x v reducesTo_S16_S_d0 h_S_) main_v5 main_c_1
  let main_v7 : IVec S_ 1 := andi main_v2 main_v6
  main_v7
-- ==== Kernel.lean ====
abbrev S8x32768x128 : Shape := ⟨3, ![8, 32768, 128]⟩
abbrev S17 : Shape := ⟨1, ![17]⟩
abbrev S16 : Shape := ⟨1, ![16]⟩
abbrev S8x2048 : Shape := ⟨2, ![8, 2048]⟩
abbrev S64x128 : Shape := ⟨2, ![64, 128]⟩
abbrev S64 : Shape := ⟨1, ![64]⟩
abbrev S_ : Shape := ⟨0, ![]⟩
abbrev S1 : Shape := ⟨1, ![1]⟩
abbrev S1x64x128 : Shape := ⟨3, ![1, 64, 128]⟩
abbrev S1x16 : Shape := ⟨2, ![1, 16]⟩
abbrev S8 : Shape := ⟨1, ![8]⟩
abbrev S12 : Shape := ⟨1, ![12]⟩
abbrev S4 : Shape := ⟨1, ![4]⟩
abbrev S14 : Shape := ⟨1, ![14]⟩
abbrev S2 : Shape := ⟨1, ![2]⟩
abbrev S15 : Shape := ⟨1, ![15]⟩
abbrev S1x64 : Shape := ⟨2, ![1, 64]⟩
abbrev S8x30720 : Shape := ⟨2, ![8, 30720]⟩
abbrev S8x2048x128 : Shape := ⟨3, ![8, 2048, 128]⟩
abbrev S16384x128 : Shape := ⟨2, ![16384, 128]⟩
abbrev S128x128 : Shape := ⟨2, ![128, 128]⟩
abbrev S16384x1 : Shape := ⟨2, ![16384, 1]⟩
abbrev S8x32768 : Shape := ⟨2, ![8, 32768]⟩

abbrev nBuf : Table → Nat
  | .hbm => 7
  | .local .tc .vmem => 6
  | .local .tc .smem => 1
  | .local .scVector .vmem => 5
  | _ => 0

abbrev bufTy : (tb : Table) → Fin (nBuf tb) → BufTy
  | .hbm, ⟨0, _⟩ => ⟨S8x32768x128, .f32⟩
  | .hbm, ⟨1, _⟩ => ⟨S8x32768x128, .f32⟩
  | .hbm, ⟨2, _⟩ => ⟨S16, .i32⟩
  | .hbm, ⟨3, _⟩ => ⟨S16, .i32⟩
  | .hbm, ⟨4, _⟩ => ⟨S8x2048, .f32⟩
  | .hbm, ⟨5, _⟩ => ⟨S8x30720, .f32⟩
  | .hbm, ⟨6, _⟩ => ⟨S8x32768, .f32⟩
  | .local .tc .vmem, ⟨0, _⟩ => ⟨S8x2048x128, .f32⟩
  | .local .tc .vmem, ⟨1, _⟩ => ⟨S8x2048x128, .f32⟩
  | .local .tc .vmem, ⟨2, _⟩ => ⟨S8x2048x128, .f32⟩
  | .local .tc .vmem, ⟨3, _⟩ => ⟨S8x2048x128, .f32⟩
  | .local .tc .vmem, ⟨4, _⟩ => ⟨S8x2048, .f32⟩
  | .local .tc .vmem, ⟨5, _⟩ => ⟨S8x2048, .f32⟩
  | .local .tc .smem, ⟨0, _⟩ => ⟨S17, .i32⟩
  | .local .scVector .vmem, ⟨0, _⟩ => ⟨S16, .i32⟩
  | .local .scVector .vmem, ⟨1, _⟩ => ⟨S16, .i32⟩
  | .local .scVector .vmem, ⟨2, _⟩ => ⟨S64x128, .f32⟩
  | .local .scVector .vmem, ⟨3, _⟩ => ⟨S64x128, .f32⟩
  | .local .scVector .vmem, ⟨4, _⟩ => ⟨S64, .f32⟩
  | _, _ => ⟨S8x32768x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg2 : Ref sig .tc := ⟨.smem, 0, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c8_i32 : BitVec 32 := 8#32
  let v109 : BitVec 32 := Scalar.addi c0_i32_2 c8_i32
  let c1_i32 : BitVec 32 := 1#32
  ⟨c0_i32_2, v109, c1_i32⟩
def k0_off1 (i : grid0.Coords) (k0_t1 : Fin k0_t1_loop.trips) : Fin 3 → Nat :=
  let c0_i32_2 : BitVec 32 := 0#32
  let c1_i32 : BitVec 32 := 1#32
  let arg12 : BitVec 32 := Scf.iv c0_i32_2 c1_i32 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32 : BitVec 32 := 64#32
  let v2 : BitVec 32 := Scalar.muli v1 c64_i32
  let c0_i32_7_r2 : BitVec 32 := 0#32
  ![arg12.toNat, v2.toNat, 0]
@[reducible] def k0_t2_loop : Scf.Loop 32 :=
  let c0_i32_4 : BitVec 32 := 0#32
  let c4_i32 : BitVec 32 := 4#32
  let v110 : BitVec 32 := Scalar.addi c0_i32_4 c4_i32
  let c1_i32_5 : BitVec 32 := 1#32
  ⟨c0_i32_4, v110, c1_i32_5⟩
def k0_off2 (k0_t2 : Fin k0_t2_loop.trips) (c0_i32_10 : BitVec 32) : Fin 2 → Nat :=
  let c0_i32_8 : BitVec 32 := 0#32
  let c0_i32_4 : BitVec 32 := 0#32
  let c1_i32_5 : BitVec 32 := 1#32
  let arg13 : BitVec 32 := Scf.iv c0_i32_4 c1_i32_5 k0_t2
  let c1_i32_7 : BitVec 32 := 1#32
  let v111 : BitVec 32 := Scalar.muli arg13 c1_i32_7
  let v112 : BitVec 32 := Scalar.addi c0_i32_8 v111
  let c16_i32_9 : BitVec 32 := 16#32
  let v113 : BitVec 32 := Scalar.muli v112 c16_i32_9
  let v114 : BitVec 32 := Scalar.addi v113 c0_i32_10
  let v115 : Index := Scalar.indexCast v114
  let c0_11 : Index := 0#32
  ![v115.toNat, 0]
def k0_off3 (k0_t2 : Fin k0_t2_loop.trips) (c0_i32_10 : BitVec 32) : Fin 2 → Nat :=
  let c0_i32_8 : BitVec 32 := 0#32
  let c0_i32_4 : BitVec 32 := 0#32
  let c1_i32_5 : BitVec 32 := 1#32
  let arg13 : BitVec 32 := Scf.iv c0_i32_4 c1_i32_5 k0_t2
  let c1_i32_7 : BitVec 32 := 1#32
  let v111 : BitVec 32 := Scalar.muli arg13 c1_i32_7
  let v112 : BitVec 32 := Scalar.addi c0_i32_8 v111
  let c16_i32_9 : BitVec 32 := 16#32
  let v113 : BitVec 32 := Scalar.muli v112 c16_i32_9
  let v114 : BitVec 32 := Scalar.addi v113 c0_i32_10
  let v122 : Index := Scalar.indexCast v114
  let c16 : Index := 16#32
  ![v122.toNat, 16]
def k0_off4 (k0_t2 : Fin k0_t2_loop.trips) (c0_i32_10 : BitVec 32) : Fin 2 → Nat :=
  let c0_i32_8 : BitVec 32 := 0#32
  let c0_i32_4 : BitVec 32 := 0#32
  let c1_i32_5 : BitVec 32 := 1#32
  let arg13 : BitVec 32 := Scf.iv c0_i32_4 c1_i32_5 k0_t2
  let c1_i32_7 : BitVec 32 := 1#32
  let v111 : BitVec 32 := Scalar.muli arg13 c1_i32_7
  let v112 : BitVec 32 := Scalar.addi c0_i32_8 v111
  let c16_i32_9 : BitVec 32 := 16#32
  let v113 : BitVec 32 := Scalar.muli v112 c16_i32_9
  let v114 : BitVec 32 := Scalar.addi v113 c0_i32_10
  let v130 : Index := Scalar.indexCast v114
  let c32 : Index := 32#32
  ![v130.toNat, 32]
def k0_off5 (k0_t2 : Fin k0_t2_loop.trips) (c0_i32_10 : BitVec 32) : Fin 2 → Nat :=
  let c0_i32_8 : BitVec 32 := 0#32
  let c0_i32_4 : BitVec 32 := 0#32
  let c1_i32_5 : BitVec 32 := 1#32
  let arg13 : BitVec 32 := Scf.iv c0_i32_4 c1_i32_5 k0_t2
  let c1_i32_7 : BitVec 32 := 1#32
  let v111 : BitVec 32 := Scalar.muli arg13 c1_i32_7
  let v112 : BitVec 32 := Scalar.addi c0_i32_8 v111
  let c16_i32_9 : BitVec 32 := 16#32
  let v113 : BitVec 32 := Scalar.muli v112 c16_i32_9
  let v114 : BitVec 32 := Scalar.addi v113 c0_i32_10
  let v138 : Index := Scalar.indexCast v114
  let c48 : Index := 48#32
  ![v138.toNat, 48]
def k0_off6 (k0_t2 : Fin k0_t2_loop.trips) (c0_i32_10 : BitVec 32) : Fin 2 → Nat :=
  let c0_i32_8 : BitVec 32 := 0#32
  let c0_i32_4 : BitVec 32 := 0#32
  let c1_i32_5 : BitVec 32 := 1#32
  let arg13 : BitVec 32 := Scf.iv c0_i32_4 c1_i32_5 k0_t2
  let c1_i32_7 : BitVec 32 := 1#32
  let v111 : BitVec 32 := Scalar.muli arg13 c1_i32_7
  let v112 : BitVec 32 := Scalar.addi c0_i32_8 v111
  let c16_i32_9 : BitVec 32 := 16#32
  let v113 : BitVec 32 := Scalar.muli v112 c16_i32_9
  let v114 : BitVec 32 := Scalar.addi v113 c0_i32_10
  let v146 : Index := Scalar.indexCast v114
  let c64 : Index := 64#32
  ![v146.toNat, 64]
def k0_off7 (k0_t2 : Fin k0_t2_loop.trips) (c0_i32_10 : BitVec 32) : Fin 2 → Nat :=
  let c0_i32_8 : BitVec 32 := 0#32
  let c0_i32_4 : BitVec 32 := 0#32
  let c1_i32_5 : BitVec 32 := 1#32
  let arg13 : BitVec 32 := Scf.iv c0_i32_4 c1_i32_5 k0_t2
  let c1_i32_7 : BitVec 32 := 1#32
  let v111 : BitVec 32 := Scalar.muli arg13 c1_i32_7
  let v112 : BitVec 32 := Scalar.addi c0_i32_8 v111
  let c16_i32_9 : BitVec 32 := 16#32
  let v113 : BitVec 32 := Scalar.muli v112 c16_i32_9
  let v114 : BitVec 32 := Scalar.addi v113 c0_i32_10
  let v154 : Index := Scalar.indexCast v114
  let c80 : Index := 80#32
  ![v154.toNat, 80]
def k0_off8 (k0_t2 : Fin k0_t2_loop.trips) (c0_i32_10 : BitVec 32) : Fin 2 → Nat :=
  let c0_i32_8 : BitVec 32 := 0#32
  let c0_i32_4 : BitVec 32 := 0#32
  let c1_i32_5 : BitVec 32 := 1#32
  let arg13 : BitVec 32 := Scf.iv c0_i32_4 c1_i32_5 k0_t2
  let c1_i32_7 : BitVec 32 := 1#32
  let v111 : BitVec 32 := Scalar.muli arg13 c1_i32_7
  let v112 : BitVec 32 := Scalar.addi c0_i32_8 v111
  let c16_i32_9 : BitVec 32 := 16#32
  let v113 : BitVec 32 := Scalar.muli v112 c16_i32_9
  let v114 : BitVec 32 := Scalar.addi v113 c0_i32_10
  let v162 : Index := Scalar.indexCast v114
  let c96 : Index := 96#32
  ![v162.toNat, 96]
def k0_off9 (k0_t2 : Fin k0_t2_loop.trips) (c0_i32_10 : BitVec 32) : Fin 2 → Nat :=
  let c0_i32_8 : BitVec 32 := 0#32
  let c0_i32_4 : BitVec 32 := 0#32
  let c1_i32_5 : BitVec 32 := 1#32
  let arg13 : BitVec 32 := Scf.iv c0_i32_4 c1_i32_5 k0_t2
  let c1_i32_7 : BitVec 32 := 1#32
  let v111 : BitVec 32 := Scalar.muli arg13 c1_i32_7
  let v112 : BitVec 32 := Scalar.addi c0_i32_8 v111
  let c16_i32_9 : BitVec 32 := 16#32
  let v113 : BitVec 32 := Scalar.muli v112 c16_i32_9
  let v114 : BitVec 32 := Scalar.addi v113 c0_i32_10
  let v170 : Index := Scalar.indexCast v114
  let c112 : Index := 112#32
  ![v170.toNat, 112]
def k0_off10 (k0_t2 : Fin k0_t2_loop.trips) : Fin 1 → Nat :=
  let c0_i32_8 : BitVec 32 := 0#32
  let c0_i32_4 : BitVec 32 := 0#32
  let c1_i32_5 : BitVec 32 := 1#32
  let arg13 : BitVec 32 := Scf.iv c0_i32_4 c1_i32_5 k0_t2
  let c1_i32_7 : BitVec 32 := 1#32
  let v111 : BitVec 32 := Scalar.muli arg13 c1_i32_7
  let v112 : BitVec 32 := Scalar.addi c0_i32_8 v111
  let c16_i32_391 : BitVec 32 := 16#32
  let v1958 : BitVec 32 := Scalar.muli v112 c16_i32_391
  let v1959 : Index := Scalar.indexCast v1958
  ![v1959.toNat]
def k0_off11 (i : grid0.Coords) (k0_t1 : Fin k0_t1_loop.trips) : Fin 2 → Nat :=
  let c0_i32_2 : BitVec 32 := 0#32
  let c1_i32 : BitVec 32 := 1#32
  let arg12 : BitVec 32 := Scf.iv c0_i32_2 c1_i32 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32 : BitVec 32 := 64#32
  let v2 : BitVec 32 := Scalar.muli v1 c64_i32
  ![arg12.toNat, v2.toNat]
abbrev grid1 : Pipeline.Grid := ⟨1, ![15], ![false]⟩

abbrev pre1 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc1_transform_0 (i : grid1.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, v0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x32768x128 : Shape := ⟨3, ![8, 32768, 128]⟩
abbrev S17 : Shape := ⟨1, ![17]⟩
abbrev S32768 : Shape := ⟨1, ![32768]⟩
abbrev S1x17 : Shape := ⟨2, ![1, 17]⟩
abbrev S32768x1 : Shape := ⟨2, ![32768, 1]⟩
abbrev S32768x17 : Shape := ⟨2, ![32768, 17]⟩
abbrev S_ : Shape := ⟨0, ![]⟩
abbrev S8x32768 : Shape := ⟨2, ![8, 32768]⟩
abbrev S1x32768 : Shape := ⟨2, ![1, 32768]⟩

abbrev nBuf : Space → Nat
  | .hbm => 66
  | .vmem => 0
  | .smem => 0
  | _ => 0

abbrev bufTy : (tb : Table) → Fin (tcTables nBuf tb) → BufTy
  | .hbm, ⟨0, _⟩ => ⟨S8x32768x128, .f32⟩
  | .hbm, ⟨1, _⟩ => ⟨S8x32768x128, .f32⟩
  | .hbm, ⟨2, _⟩ => ⟨S17, .i32⟩
  | .hbm, ⟨3, _⟩ => ⟨S32768, .i32⟩
  | .hbm, ⟨4, _⟩ => ⟨S1x17, .i32⟩
  | .hbm, ⟨5, _⟩ => ⟨S32768x1, .i32⟩
  | .hbm, ⟨6, _⟩ => ⟨S32768x17, .i32⟩
  | .hbm, ⟨7, _⟩ => ⟨S32768x17, .i32⟩
  | .hbm, ⟨8, _⟩ => ⟨S32768x17, .i1⟩
  | .hbm, ⟨9, _⟩ => ⟨S32768x17, .i32⟩
  | .hbm, ⟨10, _⟩ => ⟨S_, .i32⟩
  | .hbm, ⟨11, _⟩ => ⟨S32768, .i32⟩
  | .hbm, ⟨12, _⟩ => ⟨S_, .i32⟩
  | .hbm, ⟨13, _⟩ => ⟨S32768, .i32⟩
  | .hbm, ⟨14, _⟩ => ⟨S32768, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S_, .i32⟩
  | .hbm, ⟨24, _⟩ => ⟨S32768, .i32⟩
  | .hbm, ⟨25, _⟩ => ⟨S32768, .i1⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S32768, .i32⟩
  | .hbm, ⟨30, _⟩ => ⟨S32768x1, .i32⟩
  | .hbm, ⟨31, _⟩ => ⟨S32768, .i32⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S_, .i32⟩
  | .hbm, ⟨36, _⟩ => ⟨S32768, .i32⟩
  | .hbm, ⟨37, _⟩ => ⟨S32768, .i1⟩
  | .hbm, ⟨38, _⟩ => ⟨S_, .i32⟩
  | .hbm, ⟨39, _⟩ => ⟨S32768, .i32⟩
  | .hbm, ⟨40, _⟩ => ⟨S32768, .i32⟩
  | .hbm, ⟨41, _⟩ => ⟨S32768, .i32⟩
  | .hbm, ⟨42, _⟩ => ⟨S32768x1, .i32⟩
  | .hbm, ⟨43, _⟩ => ⟨S32768, .i32⟩
  | .hbm, ⟨44, _⟩ => ⟨S32768, .i32⟩
  | .hbm, ⟨45, _⟩ => ⟨S_, .i32⟩
  | .hbm, ⟨46, _⟩ => ⟨S32768, .i32⟩
  | .hbm, ⟨47, _⟩ => ⟨S32768, .i32⟩
  | .hbm, ⟨48, _⟩ => ⟨S_, .i32⟩
  | .hbm, ⟨49, _⟩ => ⟨S32768, .i32⟩
  | .hbm, ⟨50, _⟩ => ⟨S32768, .i1⟩
  | .hbm, ⟨51, _⟩ => ⟨S_, .i32⟩
  | .hbm, ⟨52, _⟩ => ⟨S32768, .i32⟩
  | .hbm, ⟨53, _⟩ => ⟨S32768, .i1⟩
  | .hbm, ⟨54, _⟩ => ⟨S32768, .i1⟩
  | .hbm, ⟨55, _⟩ => ⟨S32768, .i32⟩
  | .hbm, ⟨56, _⟩ => ⟨S32768, .i1⟩
  | .hbm, ⟨57, _⟩ => ⟨S32768, .i1⟩
  | .hbm, ⟨58, _⟩ => ⟨S8x32768x128, .f32⟩
  | .hbm, ⟨59, _⟩ => ⟨S_, .f32⟩
  | .hbm, ⟨60, _⟩ => ⟨S8x32768, .f32⟩
  | .hbm, ⟨61, _⟩ => ⟨S1x32768, .i1⟩
  | .hbm, ⟨62, _⟩ => ⟨S_, .f32⟩
  | .hbm, ⟨63, _⟩ => ⟨S8x32768, .f32⟩
  | .hbm, ⟨64, _⟩ => ⟨S8x32768, .i1⟩
  | .hbm, ⟨65, _⟩ => ⟨S8x32768, .f32⟩
  | _, _ => ⟨S8x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_c_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_8 : Ref sig .tc := ⟨.hbm, 45, rfl⟩
abbrev main_v28 : Ref sig .tc := ⟨.hbm, 46, rfl⟩
abbrev main_v29 : Ref sig .tc := ⟨.hbm, 47, rfl⟩
abbrev main_c_9 : Ref sig .tc := ⟨.hbm, 48, rfl⟩
abbrev main_v30 : Ref sig .tc := ⟨.hbm, 49, rfl⟩
abbrev main_v31 : Ref sig .tc := ⟨.hbm, 50, rfl⟩
abbrev main_c_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_v39 : Ref sig .tc := ⟨.hbm, 60, rfl⟩
abbrev main_v40 : Ref sig .tc := ⟨.hbm, 61, rfl⟩
abbrev main_cst_11 : Ref sig .tc := ⟨.hbm, 62, rfl⟩
abbrev main_v41 : Ref sig .tc := ⟨.hbm, 63, rfl⟩
abbrev main_call1_v0 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Proof.Base.lean ====
/-
  The optimised program as the launch theorem sees it: its label table, its SparseCore configuration, its resource
  algebra, and the buffers by name.
-/
module

public import proofs.«01_k».proof.Defs
public import Idealize.ShloMosaic.Lib.SparseCore.Quiescent
public import Idealize.ShloMosaic.Lib.SparseCore.ProtocolKit
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds library. -/
abbrev UH : Type := URounds (GSem nD τ sig) ℕ
/-- The pipeline's rounds library. -/
abbrev UB : Type := URounds (GSem nD τ sig) Unit
/-- The handshakes' rounds, the pipeline's rounds, and the transfers' counters. -/
abbrev UU : Type := UH × (UB × Counters)

end Cert.Proof

end
-- ==== Proof.Group.lean ====
/-
  One group of sixteen tokens on a SparseCore tile: the 256 loads of the group and the vector the tile stores for it.
-/
module

public import proofs.«01_k».proof.Proof.Base

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The vectors of a group -/

/-- Lane `l` holds `l`. -/
def lanes : IVec S16 32 := iota .scVector S16 32 [0] iota_S16_d0_w32_scVector
/-- The lanes whose number has bit `b` clear. -/
def clearBit (b : BitVec 32) : IVec S16 1 := cmpi .eq (andi lanes (broadcast S16 b)) (broadcast S16 0#32)
def ones : FVec F S16 .f32 := broadcast S16 (Scalar.ofBits .f32 0x3F800000#32)
def zeros : FVec F S16 .f32 := broadcast S16 (Scalar.ofBits .f32 0x00000000#32)

/-- Lane `l` reads lane `l xor 8`. -/
def swap8 (v : FVec F S16 .f32) : FVec F S16 .f32 :=
  concatenate S16 0 [⟨S8, extractStridedSlice S8 ![8] v slices_S16_o8_S8⟩, ⟨S8, extractStridedSlice S8 ![0] v slices_S16_o0_S8⟩] concatenates_S8_S8_S16_d0
/-- Lane `l` reads lane `l xor 4`. -/
def swap4 (v : FVec F S16 .f32) : FVec F S16 .f32 :=
  select (clearBit 4#32)
    (concatenate S16 0 [⟨S12, extractStridedSlice S12 ![4] v slices_S16_o4_S12⟩, ⟨S4, extractStridedSlice S4 ![0] v slices_S16_o0_S4⟩] concatenates_S12_S4_S16_d0)
    (concatenate S16 0 [⟨S4, extractStridedSlice S4 ![12] v slices_S16_o12_S4⟩, ⟨S12, extractStridedSlice S12 ![0] v slices_S16_o0_S12⟩] concatenates_S4_S12_S16_d0)
/-- Lane `l` reads lane `l xor 2`. -/
def swap2 (v : FVec F S16 .f32) : FVec F S16 .f32 :=
  select (clearBit 2#32)
    (concatenate S16 0 [⟨S14, extractStridedSlice S14 ![2] v slices_S16_o2_S14⟩, ⟨S2, extractStridedSlice S2 ![0] v slices_S16_o0_S2⟩] concatenates_S14_S2_S16_d0)
    (concatenate S16 0 [⟨S2, extractStridedSlice S2 ![14] v slices_S16_o14_S2⟩, ⟨S14, extractStridedSlice S14 ![0] v slices_S16_o0_S14⟩] concatenates_S2_S14_S16_d0)
/-- Lane `l` reads lane `l xor 1`. -/
def swap1 (v : FVec F S16 .f32) : FVec F S16 .f32 :=
  select (clearBit 1#32)
    (concatenate S16 0 [⟨S15, extractStridedSlice S15 ![1] v slices_S16_o1_S15⟩, ⟨S1, extractStridedSlice S1 ![0] v slices_S16_o0_S1⟩] concatenates_S15_S1_S16_d0)
    (concatenate S16 0 [⟨S1, extractStridedSlice S1 ![15] v slices_S16_o15_S1⟩, ⟨S15, extractStridedSlice S15 ![0] v slices_S16_o0_S15⟩] concatenates_S1_S15_S16_d0)

/-- The sum of the sixteen lanes, in every lane: four rounds of exchanges. -/
def laneSum (v : FVec F S16 .f32) : FVec F S16 .f32 :=
  let v1 := addf v (swap8 v)
  let v2 := addf v1 (swap4 v1)
  let v3 := addf v2 (swap2 v2)
  addf v3 (swap1 v3)

/-- One row's sixteen partial sums, from the products of its eight chunks. -/
def sum8 (p : Fin 8 → FVec F S16 .f32) : FVec F S16 .f32 :=
  addf (addf (addf (addf (addf (addf (addf (p 0) (p 1)) (p 2)) (p 3)) (p 4)) (p 5)) (p 6)) (p 7)

/-- Lane `k` of the group's result takes row `k`'s sum. -/
def putLane (k : Fin 16) (v res : FVec F S16 .f32) : FVec F S16 .f32 :=
  select (cmpi .eq lanes (broadcast S16 (BitVec.ofNat 32 k.val))) (laneSum v) res

/-- The sixteen rows' sums, row `k` in lane `k`. -/
def gather16 (a : Fin 16 → FVec F S16 .f32) : FVec F S16 .f32 :=
  [0, 1, 2, 3, 4, 5, 6, 7, 8, 9, 10, 11, 12, 13, 14, 15].foldl (fun res k => putLane k (a k) res) zeros

/-- The token numbers of group `t` of the tile whose first token is `v2`. -/
def tokens (v2 : BitVec 32) (t : Fin k0_t2_loop.trips) : IVec S16 32 :=
  addi (broadcast S16 (Scalar.addi v2 (Scalar.muli (Scalar.addi 0#32 (Scalar.muli (Scf.iv 0#32 1#32 t) 1#32)) 16#32))) lanes

/-- One where the token lies in some segment `[b k, e k)`, zero elsewhere. -/
def maskVec (b e : Fin 16 → IVec S16 32) (tv : IVec S16 32) : FVec F S16 .f32 :=
  [0, 1, 2, 3, 4, 5, 6, 7, 8, 9, 10, 11, 12, 13, 14, 15].foldl
    (fun a k => maximumf a (mulf (select (cmpi .sge tv (b k)) ones zeros) (select (cmpi .slt tv (e k)) ones zeros))) zeros

/-- Sixteen values of a staged array, at an offset. -/
def chunk {thr : Thread nD τ} (a : Memref sig thr.2.kind .vmem S64x128 .f32) (f : Buf (Elt F) (a.view.loc thr))
    (off : Fin S64x128.rank → Nat) (inb : ∀ x, off x + S1x16.size x ≤ S64x128.size x) : FVec F S16 .f32 :=
  shapeCast S16 (a.view.readAt (Elt F) (Rect.unit (s := S64x128) off S1x16.size inb).toLoadRect f) shapeCasts_S1x16_S16

/-! ## Programs that only read -/

section Reads

variable (thr : Thread nD τ) (a b : Memref sig thr.2.kind .vmem S64x128 .f32)
  (f : Buf (Elt F) (a.view.loc thr)) (g : Buf (Elt F) (b.view.loc thr))

/-- The two staged arrays. -/
def staged : sProp 𝕄 := iprop((a.view.loc thr ↦{fullShare} f) ∗ (b.view.loc thr ↦{fullShare} g))

/-- The program reads the staged arrays only, leaves them alone, and returns `v`. -/
def Reads {α : Type} (p : Prog (TpuEff nD τ sig (Elt F) Λ₀ thr.2) α) (v : α) : Prop :=
  ∀ Q : α → sProp 𝕄, iprop(staged thr a b f g ∗ (staged thr a b f g -∗ Q v))
    ⊢ wp frame (wpE (defs₀ (F := F)) 𝒱₀ thr none) Set.univ p Q

variable {thr a b f g}

/-- A program that returns reads its value. -/
theorem Reads.ret {α : Type} (v : α) : Reads thr a b f g (.ret v) v := by
  intro Q
  rw [wp_ret]
  iintro ⟨H, Hk⟩
  imodintro
  iapply Hk; iexact H

/-- The same for `pure`. -/
theorem Reads.pure {α : Type} (v : α) : Reads thr a b f g (pure v) v := Reads.ret v

/-- Two reads, one after the other, are one. -/
theorem Reads.bind {α β : Type} {p : Prog (TpuEff nD τ sig (Elt F) Λ₀ thr.2) α} {k : α → Prog (TpuEff nD τ sig (Elt F) Λ₀ thr.2) β}
    {v : α} {w : β} (h : Reads thr a b f g p v) (h' : Reads thr a b f g (k v) w) : Reads thr a b f g (p >>= k) w := by
  intro Q
  rw [wp_bind]
  iintro ⟨H, Hk⟩
  iapply (h _)
  isplitl [H]; · iexact H
  iintro H
  iapply (h' Q)
  isplitl [H] <;> iassumption

/-- A read's value may be replaced by an equal one. -/
theorem Reads.of_eq {α : Type} {p : Prog (TpuEff nD τ sig (Elt F) Λ₀ thr.2) α} {v w : α} (h : Reads thr a b f g p v) (e : v = w) :
    Reads thr a b f g p w := e ▸ h

/-- A load from the first input's rows reads the rectangle of its contents. -/
theorem Reads.load_fst {r : LoadRect S64x128} {hl : a.view.LoadsAt r} :
    Reads thr a b f g (Prog.lift (TpuEff.load a r hl)) (a.view.readAt (Elt F) r f) := by
  intro Q
  show _ ⊢ wp _ _ _ (.op (TpuEff.load a r hl) .ret) Q
  unfold staged
  iintro ⟨⟨Ha, Hb⟩, Hk⟩
  iapply (wp_load 𝒱₀ thr none Set.univ (m := a) (r := r) (hl := hl) (k := .ret) (q := fullShare) (f := f) (S := Finset.univ) (Finset.subset_univ _)) $$ Ha
  iintro Ha
  rw [wp_ret]; imodintro
  iapply Hk
  isplitl [Ha] <;> iassumption

/-- A load from the second input's rows reads the rectangle of its contents. -/
theorem Reads.load_snd {r : LoadRect S64x128} {hl : b.view.LoadsAt r} :
    Reads thr a b f g (Prog.lift (TpuEff.load b r hl)) (b.view.readAt (Elt F) r g) := by
  intro Q
  show _ ⊢ wp _ _ _ (.op (TpuEff.load b r hl) .ret) Q
  unfold staged
  iintro ⟨⟨Ha, Hb⟩, Hk⟩
  iapply (wp_load 𝒱₀ thr none Set.univ (m := b) (r := r) (hl := hl) (k := .ret) (q := fullShare) (f := g) (S := Finset.univ) (Finset.subset_univ _)) $$ Hb
  iintro Hb
  rw [wp_ret]; imodintro
  iapply Hk
  isplitl [Ha] <;> iassumption

end Reads

/-! ## The tile's buffers -/

abbrev mX : Memref sig .scVector .hbm S8x32768x128 .f32 := Memref.whole main_arg0_scv
abbrev mY : Memref sig .scVector .hbm S8x32768x128 .f32 := Memref.whole main_arg1_scv
abbrev mLo : Memref sig .scVector .hbm S16 .i32 := Memref.whole main_v0_scv
abbrev mHi : Memref sig .scVector .hbm S16 .i32 := Memref.whole main_v1_scv
abbrev mOut : Memref sig .scVector .hbm S8x2048 .f32 := Memref.whole main_v2_scv
abbrev bLo : Memref sig .scVector .vmem S16 .i32 := Memref.whole cc0_scratch0
abbrev bHi : Memref sig .scVector .vmem S16 .i32 := Memref.whole cc0_scratch1
abbrev bX : Memref sig .scVector .vmem S64x128 .f32 := Memref.whole cc0_scratch2
abbrev bY : Memref sig .scVector .vmem S64x128 .f32 := Memref.whole cc0_scratch3
abbrev bOut : Memref sig .scVector .vmem S64 .f32 := Memref.whole cc0_scratch4

/-- The tile that runs grid point `i`. -/
abbrev tileOf (d : Dev nD) (i : grid0.Coords) : Thread nD τ := V d ((i 0).castLE hcore0) ((i 1).castLE hsub0)

/-! ## The group's reads and its result -/

section Run

variable (d : Dev nD) (i : grid0.Coords)
  (f : Buf (Elt F) (bX.view.loc (tileOf d i))) (g : Buf (Elt F) (bY.view.loc (tileOf d i)))

/-- The sixteen partial sums of row `k` of group `t`. -/
def rowAcc (t : Fin k0_t2_loop.trips) (k : Fin 16) : FVec F S16 .f32 :=
  sum8 fun
    | 0 => mulf (chunk (thr := tileOf d i) bX f _ (k0_off2_inb t k)) (chunk (thr := tileOf d i) bY g _ (k0_off2_inb t k))
    | 1 => mulf (chunk (thr := tileOf d i) bX f _ (k0_off3_inb t k)) (chunk (thr := tileOf d i) bY g _ (k0_off3_inb t k))
    | 2 => mulf (chunk (thr := tileOf d i) bX f _ (k0_off4_inb t k)) (chunk (thr := tileOf d i) bY g _ (k0_off4_inb t k))
    | 3 => mulf (chunk (thr := tileOf d i) bX f _ (k0_off5_inb t k)) (chunk (thr := tileOf d i) bY g _ (k0_off5_inb t k))
    | 4 => mulf (chunk (thr := tileOf d i) bX f _ (k0_off6_inb t k)) (chunk (thr := tileOf d i) bY g _ (k0_off6_inb t k))
    | 5 => mulf (chunk (thr := tileOf d i) bX f _ (k0_off7_inb t k)) (chunk (thr := tileOf d i) bY g _ (k0_off7_inb t k))
    | 6 => mulf (chunk (thr := tileOf d i) bX f _ (k0_off8_inb t k)) (chunk (thr := tileOf d i) bY g _ (k0_off8_inb t k))
    | 7 => mulf (chunk (thr := tileOf d i) bX f _ (k0_off9_inb t k)) (chunk (thr := tileOf d i) bY g _ (k0_off9_inb t k))

/-- The first of the group's stored values' factors: the sums of the sixteen rows. -/
def rowSums (t : Fin k0_t2_loop.trips) : FVec F S16 .f32 := gather16 (rowAcc d i f g t)

abbrev group (v2 : BitVec 32) (b e : Fin 16 → IVec S16 32) (t : Fin k0_t2_loop.trips) :=
  k0_part38 (F := F) i mX (Memref.isWhole_whole _) mY (Memref.isWhole_whole _) mLo (Memref.isWhole_whole _) mHi (Memref.isWhole_whole _)
    mOut (Memref.isWhole_whole _) bLo (Memref.isWhole_whole _) bHi (Memref.isWhole_whole _) bX (Memref.isWhole_whole _) bY (Memref.isWhole_whole _)
    bOut (Memref.isWhole_whole _) cc0_scoped0 cc0_scoped1 cc0_scoped2 cc0_scoped3 cc0_scoped4 v2
    (b 0) (b 1) (b 2) (b 3) (b 4) (b 5) (b 6) (b 7) (b 8) (b 9) (b 10) (b 11) (b 12) (b 13) (b 14)
    (e 0) (e 1) (e 2) (e 3) (e 4) (e 5) (e 6) (e 7) (e 8) (e 9) (e 10) (e 11) (e 12) (e 13) (e 14)
    lanes ones (k0_pay1 (F := F)) 0#32 1#32 t

set_option maxRecDepth 65536 in
set_option maxHeartbeats 4000000 in
/-- The group's 256 loads read the staged rows only, and leave the sums of its sixteen rows. -/
theorem group_reads (v2 : BitVec 32) (b e : Fin 16 → IVec S16 32) (t : Fin k0_t2_loop.trips) :
    Reads (tileOf d i) bX bY f g (group i v2 b e t)
      ⟨Scalar.addi 0#32 (Scalar.muli (Scf.iv 0#32 1#32 t) 1#32), rowSums d i f g t, tokens v2 t,
        k0_pay105 (b 11) (b 12) (b 13) (e 11) (e 12) (e 13) ones zeros (tokens v2 t)
          (k0_pay104 (b 1) (b 2) (b 3) (b 4) (b 5) (b 6) (b 7) (b 8) (b 9) (b 10)
            (e 1) (e 2) (e 3) (e 4) (e 5) (e 6) (e 7) (e 8) (e 9) (e 10) ones zeros (tokens v2 t)
            (k0_pay103 v2 (b 0) (e 0) lanes ones zeros (Scalar.addi 0#32 (Scalar.muli (Scf.iv 0#32 1#32 t) 1#32)))),
        k0_pay106 (b 14) (e 14) ones zeros (tokens v2 t)⟩ := by
  apply Reads.of_eq
  case h =>
    unfold group
    rw [k0_part38_eq_skeleton]; unfold k0_part38_skel
    rw [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton,
      k0_part16_eq_skeleton, k0_part17_eq_skeleton, k0_part18_eq_skeleton, k0_part19_eq_skeleton, k0_part20_eq_skeleton,
      k0_part21_eq_skeleton, k0_part22_eq_skeleton, k0_part23_eq_skeleton, k0_part24_eq_skeleton, k0_part25_eq_skeleton,
      k0_part26_eq_skeleton, k0_part27_eq_skeleton, k0_part28_eq_skeleton, k0_part29_eq_skeleton, k0_part30_eq_skeleton,
      k0_part31_eq_skeleton, k0_part32_eq_skeleton, k0_part33_eq_skeleton, k0_part34_eq_skeleton, k0_part35_eq_skeleton,
      k0_part36_eq_skeleton, k0_part37_eq_skeleton]
    repeat first
      | with_reducible exact Reads.load_fst
      | with_reducible exact Reads.load_snd
      | with_reducible exact Reads.pure _
      | apply Reads.bind
      | exact Reads.pure _
  case e => rfl

end Run

end Cert.Proof

end
-- ==== Proof.Tile.lean ====
/-
  A SparseCore tile's task: for each head it copies its sixty-four rows of the two inputs in, sums the sixteen rows of
  each group, and copies the sixty-four results out.
-/
module

public import proofs.«01_k».proof.Proof.Group
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## What a group and a head leave -/

/-- The vector stored for group `t`: the rows' sums under the mask. -/
def groupVec (d : Dev nD) (i : grid0.Coords) (f : Buf (Elt F) (bX.view.loc (tileOf d i))) (g : Buf (Elt F) (bY.view.loc (tileOf d i)))
    (v2 : BitVec 32) (b e : Fin 16 → IVec S16 32) (t : Fin k0_t2_loop.trips) : FVec F S16 .f32 :=
  mulf (rowSums d i f g t) (maskVec b e (tokens v2 t))

/-- Four groups, -/
theorem trips2 : k0_t2_loop.trips = 4 := by decide
/-- and eight heads. -/
theorem trips1 : k0_t1_loop.trips = 8 := by decide

/-- Token `j` of the sixty-four lies in group `j / 16` at lane `j % 16`. -/
def groupOf (j : S64.Idx) : Fin k0_t2_loop.trips := ⟨(j 0).val / 16, by have := (j 0).isLt; rw [trips2]; change _ < 64 at this; omega⟩
def laneOf (j : S64.Idx) : S16.Idx := fun | 0 => ⟨(j 0).val % 16, Nat.mod_lt _ (by decide)⟩

/-- The sixty-four results of a head. -/
def headVec (d : Dev nD) (i : grid0.Coords) (f : Buf (Elt F) (bX.view.loc (tileOf d i))) (g : Buf (Elt F) (bY.view.loc (tileOf d i)))
    (v2 : BitVec 32) (b e : Fin 16 → IVec S16 32) : Buf (Elt F) (bOut.view.loc (tileOf d i)) :=
  fun j => groupVec d i f g v2 b e (groupOf j) (laneOf j)

/-- The result buffer after the first `n` groups. -/
def upto (w f : S64.Idx → F .f32) (n : ℕ) : S64.Idx → F .f32 := fun j => if (j 0).val < 16 * n then w j else f j

/-- Before any group nothing is written; -/
theorem upto_zero (w f : S64.Idx → F .f32) : upto w f 0 = f := by
  funext j; unfold upto; rw [if_neg (by omega)]
/-- after four all is. -/
theorem upto_four (w f : S64.Idx → F .f32) : upto w f k0_t2_loop.trips = w := by
  funext j; unfold upto; rw [if_pos (by have := (j 0).isLt; rw [trips2]; change _ < 64 at this; omega)]

abbrev outRect (t : Fin k0_t2_loop.trips) : Rect S64 := Rect.unit (s := S64) (k0_off10 t) S16.size (k0_off10_inb t)

/-- Where lane `x` of group `t` is stored. -/
theorem outRect_emb (t : Fin k0_t2_loop.trips) (x : S16.Idx) : ((outRect t).emb x 0).val = 16 * t.val + (x 0).val := by
  show k0_off10 t 0 + 1 * (x 0).val = _
  rw [k0_off10_eq]; simp

/-- Storing group `t`'s vector extends the written groups by one. -/
theorem upto_step (w f : S64.Idx → F .f32) (t : Fin k0_t2_loop.trips) (v : FVec F S16 .f32)
    (hv : ∀ x : S16.Idx, v x = w ((outRect t).emb x)) :
    View.write (Elt F) (bOut.view.slice (outRect t)) (upto w f t.val) v Finset.univ = upto w f (t.val + 1) := by
  funext j
  by_cases hj : j ∈ (outRect t).set
  · obtain ⟨x, rfl⟩ : ∃ x : S16.Idx, j = (outRect t).emb x := by
      obtain ⟨x, hx⟩ := (outRect t).exists_idx_of_mem hj
      exact ⟨x, hx.symm⟩
    have h1 : View.write (Elt F) (bOut.view.slice (outRect t)) (upto w f t.val) v Finset.univ ((outRect t).emb x) = v x :=
      View.write_emb_of_mem (v := bOut.view.slice (outRect t)) _ _ (Finset.mem_univ x)
    rw [h1, hv]
    unfold upto
    rw [if_pos]
    rw [outRect_emb]; have := (x 0).isLt; change _ < 16 at this; omega
  · have h1 : View.write (Elt F) (bOut.view.slice (outRect t)) (upto w f t.val) v Finset.univ j = upto w f t.val j :=
      View.write_of_not_mem (v := bOut.view.slice (outRect t)) _ _ _ (by
        rw [View.setOn_univ, View.set_slice]; intro h; obtain ⟨y, hy, rfl⟩ := Finset.mem_map.mp h; exact hj hy)
    rw [h1]
    unfold upto
    rw [Rect.mem_set_unit] at hj
    have hj' : ¬ (16 * t.val ≤ (j 0).val ∧ (j 0).val < 16 * t.val + 16) := fun h => hj fun a => by
      match a with
      | 0 => rw [k0_off10_eq]; exact h
    by_cases h : (j 0).val < 16 * t.val
    · rw [if_pos h, if_pos (by omega)]
    · rw [if_neg h, if_neg (by omega)]

/-- A head's vector, read at a lane of a group. -/
theorem headVec_emb (d : Dev nD) (i : grid0.Coords) (f : Buf (Elt F) (bX.view.loc (tileOf d i))) (g : Buf (Elt F) (bY.view.loc (tileOf d i)))
    (v2 : BitVec 32) (b e : Fin 16 → IVec S16 32) (t : Fin k0_t2_loop.trips) (x : S16.Idx) :
    groupVec d i f g v2 b e t x = headVec d i f g v2 b e ((outRect t).emb x) := by
  have hx := (x 0).isLt
  change _ < 16 at hx
  have h1 : groupOf ((outRect t).emb x) = t := Fin.ext (by show ((outRect t).emb x 0).val / 16 = _; rw [outRect_emb]; omega)
  have h2 : laneOf ((outRect t).emb x) = x := funext fun a => by
    match a with
    | 0 => exact Fin.ext (by show ((outRect t).emb x 0).val % 16 = _; rw [outRect_emb]; omega)
  unfold headVec; rw [h1, h2]

set_option maxHeartbeats 4000000 in
/-- The vector the program stores is the group's vector. -/
theorem stored_eq (d : Dev nD) (i : grid0.Coords) (f : Buf (Elt F) (bX.view.loc (tileOf d i))) (g : Buf (Elt F) (bY.view.loc (tileOf d i)))
    (v2 : BitVec 32) (b e : Fin 16 → IVec S16 32) (t : Fin k0_t2_loop.trips) :
    k0_pay2 (b 15) (e 15) ones (rowSums d i f g t) (tokens v2 t)
      (k0_pay105 (b 11) (b 12) (b 13) (e 11) (e 12) (e 13) ones zeros (tokens v2 t)
        (k0_pay104 (b 1) (b 2) (b 3) (b 4) (b 5) (b 6) (b 7) (b 8) (b 9) (b 10)
          (e 1) (e 2) (e 3) (e 4) (e 5) (e 6) (e 7) (e 8) (e 9) (e 10) ones zeros (tokens v2 t)
          (k0_pay103 v2 (b 0) (e 0) lanes ones zeros (Scalar.addi 0#32 (Scalar.muli (Scf.iv 0#32 1#32 t) 1#32)))))
      (k0_pay106 (b 14) (e 14) ones zeros (tokens v2 t)) = groupVec d i f g v2 b e t :=
  shapeCast_self (mulf (rowSums d i f g t) (maskVec b e (tokens v2 t))) _

/-! ## The loop over the groups of a head -/

abbrev groupBody (i : grid0.Coords) (v2 : BitVec 32) (b e : Fin 16 → IVec S16 32) :=
  k0_t2_body (F := F) i mX (Memref.isWhole_whole _) mY (Memref.isWhole_whole _) mLo (Memref.isWhole_whole _) mHi (Memref.isWhole_whole _)
    mOut (Memref.isWhole_whole _) bLo (Memref.isWhole_whole _) bHi (Memref.isWhole_whole _) bX (Memref.isWhole_whole _) bY (Memref.isWhole_whole _)
    bOut (Memref.isWhole_whole _) cc0_scoped0 cc0_scoped1 cc0_scoped2 cc0_scoped3 cc0_scoped4 v2
    (b 0) (b 1) (b 2) (b 3) (b 4) (b 5) (b 6) (b 7) (b 8) (b 9) (b 10) (b 11) (b 12) (b 13) (b 14) (b 15)
    (e 0) (e 1) (e 2) (e 3) (e 4) (e 5) (e 6) (e 7) (e 8) (e 9) (e 10) (e 11) (e 12) (e 13) (e 14) (e 15)
    lanes ones

section Groups

variable (d : Dev nD) (i : grid0.Coords)
  (f : Buf (Elt F) (bX.view.loc (tileOf d i))) (g : Buf (Elt F) (bY.view.loc (tileOf d i)))
  (v2 : BitVec 32) (b e : Fin 16 → IVec S16 32) (fo : Buf (Elt F) (bOut.view.loc (tileOf d i)))

/-- The groups done so far are written; the staged rows are untouched. -/
def groupInv (n : Nat) (_ : PUnit.{1}) : sProp 𝕄 :=
  iprop(staged (tileOf d i) bX bY f g ∗ (bOut.view.loc (tileOf d i) ↦{fullShare} upto (headVec d i f g v2 b e) fo n))

set_option maxRecDepth 65536 in
/-- The groups' loop runs, and leaves the head's vector in the staged row. -/
theorem groups_run (Q : PUnit.{1} → sProp 𝕄) :
    iprop(staged (tileOf d i) bX bY f g ∗ (bOut.view.loc (tileOf d i) ↦{fullShare} fo)
      ∗ ((staged (tileOf d i) bX bY f g ∗ bOut.view.loc (tileOf d i) ↦{fullShare} headVec d i f g v2 b e) -∗ Q ⟨⟩))
    ⊢ wp frame (wpE (defs₀ (F := F)) 𝒱₀ (tileOf d i) none) Set.univ
        (Scf.Loop.for k0_t2_loop k0_t2_ok ⟨⟩ (groupBody i v2 b e)) Q := by
  iintro ⟨Hst, Ho, Hk⟩
  sl_for (groupInv d i f g v2 b e fo) $$ [Hst Ho Hk]
  case region =>
    intro t _
    unfold groupInv
    change _ ⊢ wp _ _ _ (groupBody i v2 b e t ⟨⟩) _
    unfold groupBody k0_t2_body
    rw [wp_bind]
    iintro ⟨Hst, Ho⟩
    iapply (group_reads d i f g v2 b e t _)
    isplitl [Hst]; · iexact Hst
    iintro Hst
    sl_exec
    sl_step
    isplitl [Hst]; · iexact Hst
    rw [← upto_step (headVec d i f g v2 b e) fo t (groupVec d i f g v2 b e t) (headVec_emb d i f g v2 b e t), ← stored_eq, View.writes_singleton]
    iexact Ho
  unfold groupInv
  isplitl [Hst Ho]
  · isplitl [Hst]; · iexact Hst
    rw [upto_zero]; iexact Ho
  iintro %_ ⟨Hst, Ho⟩
  rw [show Scf.trips k0_t2_loop.lb k0_t2_loop.ub k0_t2_loop.st = k0_t2_loop.trips from rfl, upto_four]
  iapply Hk
  isplitl [Hst]; · iexact Hst
  iexact Ho

end Groups

/-! ## The loop over the heads -/

/-- The tile's sixty-four rows of head `h`, of each input; and the tile's sixty-four results of that head. -/
abbrev xRow (i : grid0.Coords) (h : Fin k0_t1_loop.trips) : Memref sig .scVector .hbm S64x128 .f32 :=
  (mX.slice (Rect.unit (s := S8x32768x128) (k0_off1 i h) S1x64x128.size (k0_off1_inb i h)) (fun _ => rfl)).squeeze S64x128 squeezes_S1x64x128_S64x128
abbrev yRow (i : grid0.Coords) (h : Fin k0_t1_loop.trips) : Memref sig .scVector .hbm S64x128 .f32 :=
  (mY.slice (Rect.unit (s := S8x32768x128) (k0_off1 i h) S1x64x128.size (k0_off1_inb i h)) (fun _ => rfl)).squeeze S64x128 squeezes_S1x64x128_S64x128
abbrev oRow (i : grid0.Coords) (h : Fin k0_t1_loop.trips) : Memref sig .scVector .hbm S64 .f32 :=
  (mOut.slice (Rect.unit (s := S8x2048) (k0_off11 i h) S1x64.size (k0_off11_inb i h)) (fun _ => rfl)).squeeze S64 squeezes_S1x64_S64

abbrev headBody (i : grid0.Coords) (v2 : BitVec 32) (b e : Fin 16 → IVec S16 32) :=
  k0_t1_body (F := F) i mX (Memref.isWhole_whole _) mY (Memref.isWhole_whole _) mLo (Memref.isWhole_whole _) mHi (Memref.isWhole_whole _)
    mOut (Memref.isWhole_whole _) bLo (Memref.isWhole_whole _) bHi (Memref.isWhole_whole _) bX (Memref.isWhole_whole _) bY (Memref.isWhole_whole _)
    bOut (Memref.isWhole_whole _) cc0_scoped0 cc0_scoped1 cc0_scoped2 cc0_scoped3 cc0_scoped4 v2
    (b 0) (b 1) (b 2) (b 3) (b 4) (b 5) (b 6) (b 7) (b 8) (b 9) (b 10) (b 11) (b 12) (b 13) (b 14) (b 15)
    (e 0) (e 1) (e 2) (e 3) (e 4) (e 5) (e 6) (e 7) (e 8) (e 9) (e 10) (e 11) (e 12) (e 13) (e 14) (e 15)
    lanes ones

abbrev cell (d : Dev nD) (i : grid0.Coords) (s : DmaSems sig S_) : GSem nD τ sig := (tileOf d i, .dma s.sem)

section Heads

variable (d : Dev nD) (i : grid0.Coords) (qx qy : PosShare TreeShare)
  (A : Buf (Elt F) (mX.view.loc (tileOf d i))) (B : Buf (Elt F) (mY.view.loc (tileOf d i)))
  (o r : Buf (Elt F) (mOut.view.loc (tileOf d i)))
  (v2 : BitVec 32) (b e : Fin 16 → IVec S16 32)
  (O : CellTallies nD τ sig (HIx 1)) (W : Waits sig (HIx 1))

/-- The tile's results of head `h`: written once the head is done. -/
def piece (n : Nat) (h : Fin k0_t1_loop.trips) : sProp 𝕄 :=
  mOut.view.loc (tileOf d i) ↦[(oRow i h).view.set]{fullShare} (if h.val < n then r else o)

/-- Heads below `n` are written; the inputs are held as read shares. -/
def headInv (n : Nat) (_ : PUnit.{1}) : sProp 𝕄 :=
  iprop(Transfers.MayWaits (tileOf d i) (default : HIx 1) O
    ∗ (mX.view.loc (tileOf d i) ↦{qx} A) ∗ (mY.view.loc (tileOf d i) ↦{qy} B)
    ∗ (∃ f, bX.view.loc (tileOf d i) ↦{fullShare} f) ∗ (∃ f, bY.view.loc (tileOf d i) ↦{fullShare} f)
    ∗ (∃ f, bOut.view.loc (tileOf d i) ↦{fullShare} f)
    ∗ semVal (cell d i cc0_scoped2) 0 ∗ semVal (cell d i cc0_scoped3) 0 ∗ semVal (cell d i cc0_scoped4) 0
    ∗ bigSep Finset.univ (piece d i o r n)
    ∗ ∃ W', ⌜∀ p ∈ W', p ∈ W ∨ p.2 = none⌝ ∗ owes (tileOf d i) O W')

/-- After a head its piece is written, and no other has changed. -/
theorem piece_succ (h : Fin k0_t1_loop.trips) :
    bigSep (Finset.univ.erase h) (piece d i o r h.val) = bigSep (Finset.univ.erase h) (piece d i o r (h.val + 1)) :=
  bigSep_congr fun h' hh => by
    have hne : h'.val ≠ h.val := fun e => (Finset.mem_erase.mp hh).1 (Fin.ext e)
    unfold piece
    by_cases hl : h'.val < h.val
    · rw [if_pos hl, if_pos (by omega)]
    · rw [if_neg hl, if_neg (by omega)]

/-- Before its trip a head's results are as they were. -/
theorem piece_now (h : Fin k0_t1_loop.trips) :
    piece d i o r h.val h = ((oRow i h).view.loc (tileOf d i) ↦[(oRow i h).view.set]{fullShare} o : sProp 𝕄) := by
  unfold piece; rw [if_neg (lt_irrefl _)]

/-- After its trip they are what the copy wrote. -/
theorem piece_next (h : Fin k0_t1_loop.trips) (w p : S64.Idx → F .f32) (hw : ∀ y, r ((oRow i h).view.emb y) = w y) (hp : p = w) :
    piece d i o r (h.val + 1) h
      = ((oRow i h).view.loc (tileOf d i) ↦[(oRow i h).view.set]{fullShare} (oRow i h).view.writes (Elt F) o [⟨Rect.whole S64, p⟩] : sProp 𝕄) := by
  subst hp
  unfold piece; rw [if_pos (Nat.lt_succ_self _)]
  refine pointsTo_congr fun x hx => ?_
  obtain ⟨y, -, rfl⟩ := Finset.mem_map.mp hx
  rw [hw]
  have h1 := View.read_writes_cons_emb (Val := Elt F) (oRow i h).view o (Rect.whole S64) p [] y
  rw [Rect.emb_whole_apply] at h1
  exact h1.symm

set_option maxRecDepth 65536 in
/-- The heads' loop runs, and leaves every head's row in the result. -/
theorem heads_run (hr : ∀ h y, r ((oRow i h).view.emb y) = headVec d i ((xRow i h).view.read (Elt F) A) ((yRow i h).view.read (Elt F) B) v2 b e y)
    (Q : PUnit.{1} → sProp 𝕄) :
    iprop(headInv d i qx qy A B o r O W 0 ⟨⟩ ∗ (headInv d i qx qy A B o r O W k0_t1_loop.trips ⟨⟩ -∗ Q ⟨⟩))
    ⊢ wp frame (wpE (defs₀ (F := F)) 𝒱₀ (tileOf d i) none) Set.univ
        (Scf.Loop.for k0_t1_loop k0_t1_ok ⟨⟩ (headBody i v2 b e)) Q := by
  iintro ⟨Hinv, Hk⟩
  sl_for (headInv d i qx qy A B o r O W) $$ [Hinv Hk]
  case region =>
    intro h _
    change _ ⊢ wp _ _ _ (headBody i v2 b e h ⟨⟩) _
    unfold headBody k0_t1_body headInv
    rw [SparseCore.bigSep_erase' (Finset.mem_univ h)]
    iintro ⟨Hmw, Hx, Hy, ⟨%fx, Hbx⟩, ⟨%fy, Hby⟩, ⟨%fo, Hbo⟩, Hs2, Hs3, Hs4, ⟨Ho, Hrest⟩, %W', %hW', HO⟩
    sl_exec (disch := exact View.amount_pos _ _ (by decide))
    have ex : View.write (Elt F) bX.view fx (heads_run.sl.dma0 d i A h) Finset.univ = (xRow i h).view.read (Elt F) A := View.write_whole_univ _ _ _
    have ey : View.write (Elt F) bY.view fy (heads_run.sl.dma0_1 d i B h) Finset.univ = (yRow i h).view.read (Elt F) B := View.write_whole_univ _ _ _
    rw [ex, ey, wp_bind]
    iapply (groups_run d i ((xRow i h).view.read (Elt F) A) ((yRow i h).view.read (Elt F) B) v2 b e fo _)
    unfold staged
    isplitl [Hbx Hby]
    · isplitl [Hbx] <;> iassumption
    isplitl [Hbo]; · iexact Hbo
    iintro ⟨⟨Hbx, Hby⟩, Hbo⟩
    ihave Ho' := (Entails.of_eq (piece_now d i o r h)) $$ Ho
    sl_exec (disch := exact View.amount_pos _ _ (by decide))
    sl_step
    rw [SparseCore.bigSep_erase' (Finset.mem_univ h), piece_next d i o r h _ (heads_run.sl.dma0_2 d i A B v2 b e h) (hr h) rfl, ← piece_succ]
    isplitl [Hmw]; · iexact Hmw
    isplitl [Hx]; · iexact Hx
    isplitl [Hy]; · iexact Hy
    isplitl [Hbx]; · iexists _; iexact Hbx
    isplitl [Hby]; · iexists _; iexact Hby
    isplitl [Hbo]; · iexists _; iexact Hbo
    isplitl [Hs2]; · iexact Hs2
    isplitl [Hs3]; · iexact Hs3
    isplitl [Hs4]; · iexact Hs4
    isplitl [Ho' Hrest]; · isplitl [Ho'] <;> iassumption
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  isplitl [Hinv]; · iexact Hinv
  iintro %_ H
  iapply Hk
  iexact H

end Heads

end Cert.Proof

end
-- ==== Proof.Task.lean ====
/-
  A SparseCore tile's whole task: the segment bounds copied in, their lanes spread over vectors, and the eight heads.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The segment bounds as the tile uses them -/

theorem slices_lane : ∀ k : Fin 16, S16.Slices ![k.val] S1 := by decide

/-- Lane `k` of a vector in every lane. -/
def splat (v : IVec S16 32) (k : Fin 16) : IVec S16 32 :=
  broadcastTo S16 (shapeCast S1 (extractStridedSlice S1 ![k.val] v (slices_lane k)) shapeCasts_S1_S1) broadcasts_S1_S16

/-- The segments' first tokens, and the tokens past their last valid ones. -/
def begins (lo : IVec S16 32) : Fin 16 → IVec S16 32 := splat (k0_pay107 (F := F) lo)
def stops (lo hi : IVec S16 32) : Fin 16 → IVec S16 32 := splat (k0_pay108 (F := F) lo hi)

/-- The tile's first token. -/
def firstTok (i : grid0.Coords) : BitVec 32 :=
  Scalar.muli (Scalar.addi (Scalar.muli (BitVec.ofNat 32 (i 0).val) 16#32) (BitVec.ofNat 32 (i 1).val)) 64#32

/-! ## The tile's own buffers and semaphores -/

section Own

variable (d : Dev nD) (i : grid0.Coords)

/-- A copy semaphore of the tile is among its own cells. -/
theorem mem_cell (s : DmaSems sig S_) (hs : (SemLoc.dma s.sem : SemLoc sig).isScoped .scVector = true) : cell d i s ∈ ownCells (tileOf d i) :=
  (mem_ownCells (g := cell d i s)).mpr ⟨rfl, hs⟩

/-- Different semaphores are different cells. -/
theorem cell_ne {s s' : DmaSems sig S_} (h : s.sem ≠ s'.sem) : cell d i s ≠ cell d i s' := fun e => h (by
  have := congrArg Prod.snd e
  simpa [cell] using this)

/-- The tile's five copy semaphores, each with its counter at zero, and the rest. -/
theorem ownSems0_tile :
    (ownSems0 (tileOf d i) : sProp 𝕄)
      = iprop(semVal (cell d i cc0_scoped0) 0 ∗ semVal (cell d i cc0_scoped1) 0 ∗ semVal (cell d i cc0_scoped2) 0
          ∗ semVal (cell d i cc0_scoped3) 0 ∗ semVal (cell d i cc0_scoped4) 0
          ∗ bigSep ((((((ownCells (tileOf d i)).erase (cell d i cc0_scoped0)).erase (cell d i cc0_scoped1)).erase (cell d i cc0_scoped2)).erase
              (cell d i cc0_scoped3)).erase (cell d i cc0_scoped4)) fun g => semVal g 0) := by
  unfold SparseCore.Cfg.ownSems0
  rw [SparseCore.bigSep_erase' (mem_cell d i cc0_scoped0 (by decide)),
    SparseCore.bigSep_erase' (i := cell d i cc0_scoped1) (by
      simp only [Finset.mem_erase]
      exact ⟨cell_ne d i (by decide), mem_cell d i _ (by decide)⟩),
    SparseCore.bigSep_erase' (i := cell d i cc0_scoped2) (by
      simp only [Finset.mem_erase]
      exact ⟨cell_ne d i (by decide), cell_ne d i (by decide), mem_cell d i _ (by decide)⟩),
    SparseCore.bigSep_erase' (i := cell d i cc0_scoped3) (by
      simp only [Finset.mem_erase]
      exact ⟨cell_ne d i (by decide), cell_ne d i (by decide), cell_ne d i (by decide), mem_cell d i _ (by decide)⟩),
    SparseCore.bigSep_erase' (i := cell d i cc0_scoped4) (by
      simp only [Finset.mem_erase]
      exact ⟨cell_ne d i (by decide), cell_ne d i (by decide), cell_ne d i (by decide), cell_ne d i (by decide), mem_cell d i _ (by decide)⟩)]

abbrev ref (i : grid0.Coords) (b : Ref sig .scVector) : DevRef τ sig := (Proc.scVector ((i 0).castLE hcore0) ((i 1).castLE hsub0)).devRef b

/-- A scratch buffer of the tile is among its own. -/
theorem mem_ref (b : Ref sig .scVector) (hb : (ref i b).owner = .proc (Proc.scVector ((i 0).castLE hcore0) ((i 1).castLE hsub0))) :
    ref i b ∈ ownRefs (τ := τ) (.scVector ((i 0).castLE hcore0) ((i 1).castLE hsub0)) :=
  SparseCore.Cfg.mem_ownRefs_of_owner hb

/-- Different names are different buffers. -/
theorem ref_ne {b b' : Ref sig .scVector} (h : b ≠ b') : ref i b ≠ ref i b' := fun e => h (Proc.devRef_injective _ e)

/-- The tile's five scratch buffers, each at some contents, and the rest. -/
theorem ownBufs_tile :
    (ownBufs (tileOf d i) : sProp 𝕄)
      = iprop((∃ f, bLo.view.loc (tileOf d i) ↦{fullShare} f) ∗ (∃ f, bHi.view.loc (tileOf d i) ↦{fullShare} f)
          ∗ (∃ f, bX.view.loc (tileOf d i) ↦{fullShare} f) ∗ (∃ f, bY.view.loc (tileOf d i) ↦{fullShare} f)
          ∗ (∃ f, bOut.view.loc (tileOf d i) ↦{fullShare} f)
          ∗ bigSep ((((((ownRefs (τ := τ) (.scVector ((i 0).castLE hcore0) ((i 1).castLE hsub0))).erase (ref i cc0_scratch0)).erase
              (ref i cc0_scratch1)).erase (ref i cc0_scratch2)).erase (ref i cc0_scratch3)).erase (ref i cc0_scratch4))
              fun b => iprop(∃ f, ((d, b) : Loc nD τ sig) ↦{fullShare} f)) := by
  unfold SparseCore.Cfg.ownBufs
  refine (SparseCore.bigSep_erase' (mem_ref i cc0_scratch0 rfl)).trans ?_
  rw [SparseCore.bigSep_erase' (i := ref i cc0_scratch1) (by
      simp only [Finset.mem_erase]
      exact ⟨ref_ne i (by decide), mem_ref i _ rfl⟩),
    SparseCore.bigSep_erase' (i := ref i cc0_scratch2) (by
      simp only [Finset.mem_erase]
      exact ⟨ref_ne i (by decide), ref_ne i (by decide), mem_ref i _ rfl⟩),
    SparseCore.bigSep_erase' (i := ref i cc0_scratch3) (by
      simp only [Finset.mem_erase]
      exact ⟨ref_ne i (by decide), ref_ne i (by decide), ref_ne i (by decide), mem_ref i _ rfl⟩),
    SparseCore.bigSep_erase' (i := ref i cc0_scratch4) (by
      simp only [Finset.mem_erase]
      exact ⟨ref_ne i (by decide), ref_ne i (by decide), ref_ne i (by decide), ref_ne i (by decide), mem_ref i _ rfl⟩)]

end Own

/-! ## The task -/

section Run

variable (d : Dev nD) (i : grid0.Coords) (qx qy ql qh : PosShare TreeShare)
  (A : Buf (Elt F) (mX.view.loc (tileOf d i))) (B : Buf (Elt F) (mY.view.loc (tileOf d i)))
  (lo : Buf (Elt F) (mLo.view.loc (tileOf d i))) (hi : Buf (Elt F) (mHi.view.loc (tileOf d i)))
  (o r : Buf (Elt F) (mOut.view.loc (tileOf d i)))

/-- What a tile takes (`n = 0`) and brings back (`n = 8`): read shares of the inputs and the bounds, and its results. -/
def hand (n : Nat) : sProp 𝕄 :=
  iprop((mX.view.loc (tileOf d i) ↦{qx} A) ∗ (mY.view.loc (tileOf d i) ↦{qy} B) ∗ (mLo.view.loc (tileOf d i) ↦{ql} lo) ∗ (mHi.view.loc (tileOf d i) ↦{qh} hi)
    ∗ bigSep Finset.univ (piece d i o r n))

/-- A zero offset. -/
theorem zero_off : (![0] : Fin S16.rank → Nat) = fun _ => 0 := by
  funext a; match a with | 0 => rfl

set_option maxRecDepth 65536 in
set_option maxHeartbeats 4000000 in
/-- The task on the tile at grid point `i`. -/
theorem task_run (hr : ∀ h y, r ((oRow i h).view.emb y)
      = headVec d i ((xRow i h).view.read (Elt F) A) ((yRow i h).view.read (Elt F) B) (firstTok i) (begins (F := F) lo) (stops (F := F) lo hi) y)
    (O : CellTallies nD τ sig (HIx 1)) (W : Waits sig (HIx 1)) (hO : ∀ g, O g none = 0) :
    iprop(levAts (K (F := F)).L (K (F := F)).lev ∗ emp ∗ hand d i qx qy ql qh A B lo hi o r 0
        ∗ scopedBufs (tileOf d i) ∗ scopedSems0 (tileOf d i) ∗ owes (tileOf d i) O W)
      ⊢ wp frame (wpE (defs₀ (F := F)) 𝒱₀ (tileOf d i) none) Set.univ
          (cc0__sc_body i mX (Memref.isWhole_whole _) mY (Memref.isWhole_whole _) mLo (Memref.isWhole_whole _) mHi (Memref.isWhole_whole _)
            mOut (Memref.isWhole_whole _) bLo (Memref.isWhole_whole _) bHi (Memref.isWhole_whole _) bX (Memref.isWhole_whole _) bY (Memref.isWhole_whole _)
            bOut (Memref.isWhole_whole _) cc0_scoped0 cc0_scoped1 cc0_scoped2 cc0_scoped3 cc0_scoped4)
          fun _ => iprop(hand d i qx qy ql qh A B lo hi o r k0_t1_loop.trips
            ∗ scopedBufs (tileOf d i) ∗ scopedSems0 (tileOf d i)
            ∗ ∃ W', ⌜∀ p ∈ W', p ∈ W ∨ p.2 = none⌝ ∗ owes (tileOf d i) O W') := by
  rw [cc0__sc_body_eq_skeleton]; unfold cc0__sc_body_skel
  rw [k0_part39_eq_skeleton, k0_part40_eq_skeleton]; unfold k0_part39_skel k0_part40_skel
  rw [(K (F := F)).scopedBufs_V facts d ((i 0).castLE hcore0) ((i 1).castLE hsub0), SparseCore.Cfg.scopedSems0_V (Val := Elt F) d ((i 0).castLE hcore0) ((i 1).castLE hsub0),
    ownSems0_tile, ownBufs_tile]
  unfold hand
  iintro ⟨#Hlv, -, ⟨Hx, Hy, Hlo, Hhi, Ho⟩, ⟨⟨%f0, Hb0⟩, ⟨%f1, Hb1⟩, Hb2, Hb3, Hb4, Hbufs⟩, ⟨Hs0, Hs1, Hs2, Hs3, Hs4, Hsems⟩, HO⟩
  ihave Hmw := (show levAts (K (F := F)).L (K (F := F)).lev ⊢ Transfers.MayWaits (tileOf d i) (default : HIx 1) O from
    (K (F := F)).mayWaits_none (thr := tileOf d i) hO) $$ Hlv
  sl_exec
  have elo : View.readAt (Elt F) bLo.view (Rect.unit ![0] S16.size inb_S16_S16_0).toLoadRect
      (View.write (Elt F) bLo.view f0 (task_run.sl.dma0 d i lo) Finset.univ) = lo := (congrArg _ (View.write_whole_univ _ _ _)).trans (Memref.readAt_unit_zero (Elt F) cc0_scratch0 zero_off _ _)
  have ehi : View.readAt (Elt F) bHi.view (Rect.unit ![0] S16.size inb_S16_S16_0).toLoadRect
      (View.write (Elt F) bHi.view f1 (task_run.sl.dma0_1 d i hi) Finset.univ) = hi := (congrArg _ (View.write_whole_univ _ _ _)).trans (Memref.readAt_unit_zero (Elt F) cc0_scratch1 zero_off _ _)
  rw [elo, ehi, wp_bind]
  conv_rhs => change wp _ _ _ (Scf.Loop.for k0_t1_loop k0_t1_ok ⟨⟩ (headBody i (firstTok i) (begins (F := F) lo) (stops (F := F) lo hi))) _
  iapply (heads_run d i qx qy A B o r (firstTok i) (begins (F := F) lo) (stops (F := F) lo hi) O W hr _)
  unfold headInv
  isplitl [Hmw Hx Hy Hb2 Hb3 Hb4 Hs2 Hs3 Hs4 Ho HO]
  · isplitl [Hmw]; · iexact Hmw
    isplitl [Hx]; · iexact Hx
    isplitl [Hy]; · iexact Hy
    isplitl [Hb2]; · iexact Hb2
    isplitl [Hb3]; · iexact Hb3
    isplitl [Hb4]; · iexact Hb4
    isplitl [Hs2]; · iexact Hs2
    isplitl [Hs3]; · iexact Hs3
    isplitl [Hs4]; · iexact Hs4
    isplitl [Ho]; · iexact Ho
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iintro ⟨-, Hx, Hy, Hb2, Hb3, Hb4, Hs2, Hs3, Hs4, Ho, HO⟩
  sl_step
  isplitl [Hx Hy Hlo Hhi Ho]
  · isplitl [Hx]; · iexact Hx
    isplitl [Hy]; · iexact Hy
    isplitl [Hlo]; · iexact Hlo
    isplitl [Hhi]; · iexact Hhi
    iexact Ho
  isplitl [Hb0 Hb1 Hb2 Hb3 Hb4 Hbufs]
  · isplitl [Hb0]; · iexists _; iexact Hb0
    isplitl [Hb1]; · iexists _; iexact Hb1
    isplitl [Hb2]; · iexact Hb2
    isplitl [Hb3]; · iexact Hb3
    isplitl [Hb4]; · iexact Hb4
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexact HO

end Run

end Cert.Proof

end
-- ==== Proof.Launch.lean ====
/-
  The thirty-two tiles together: what each is handed, what each brings back, and how the whole buffers split into and
  join from their parts.
-/
module

public import proofs.«01_k».proof.Proof.Task

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The grid point of a core and a tile -/

/-- Grid point `(c, s)`. -/
def at2 (c s : ℕ) : grid0.Coords := fun
  | 0 => ⟨c % 2, Nat.mod_lt _ (by decide)⟩
  | 1 => ⟨s % 16, Nat.mod_lt _ (by decide)⟩

/-- The core of a pair of coordinates. -/
theorem at2_zero (c s : ℕ) : (at2 c s 0).val = c % 2 := rfl
/-- The tile of a pair of coordinates. -/
theorem at2_one (c s : ℕ) : (at2 c s 1).val = s % 16 := rfl

/-- Coordinates are the pair of their parts. -/
theorem at2_coords (i : grid0.Coords) : at2 (i 0).val (i 1).val = i := by
  funext a
  match a with
  | 0 => exact Fin.ext (Nat.mod_eq_of_lt (i 0).isLt)
  | 1 => exact Fin.ext (Nat.mod_eq_of_lt (i 1).isLt)

/-! ## Where a tile's row lies in the result -/

theorem oRow_zero (i : grid0.Coords) (h : Fin k0_t1_loop.trips) (y : S64.Idx) : ((oRow i h).view.emb y 0).val = h.val := by
  show (((Rect.unit (s := S8x2048) (k0_off11 i h) S1x64.size (k0_off11_inb i h)).emb (Shape.reshapeEquiv squeezes_S1x64_S64.numel_eq y)) 0).val = _
  rw [Shape.reshapeEquiv_cons_one (n := 1) (d := ![64])]
  show k0_off11 i h 0 + 1 * 0 = _
  rw [k0_off11_eq]; rfl

/-- The token at which place `y` of a tile's row lies in the result. -/
theorem oRow_one (i : grid0.Coords) (h : Fin k0_t1_loop.trips) (y : S64.Idx) :
    ((oRow i h).view.emb y 1).val = 1024 * (i 0).val + 64 * (i 1).val + (y 0).val := by
  show (((Rect.unit (s := S8x2048) (k0_off11 i h) S1x64.size (k0_off11_inb i h)).emb (Shape.reshapeEquiv squeezes_S1x64_S64.numel_eq y)) 1).val = _
  rw [Shape.reshapeEquiv_cons_one (n := 1) (d := ![64])]
  show k0_off11 i h 1 + 1 * (y 0).val = _
  rw [k0_off11_eq, Nat.one_mul]; rfl

/-- The tile, the head and the token within the tile of a place of the result. -/
def tileAt (j : S8x2048.Idx) : grid0.Coords := at2 ((j 1).val / 1024) ((j 1).val % 1024 / 64)
/-- The head of a place of the result. -/
def headAt (j : S8x2048.Idx) : Fin k0_t1_loop.trips := ⟨(j 0).val, (j 0).isLt⟩
/-- The place's token within its tile's row. -/
def spotAt (j : S8x2048.Idx) : S64.Idx := fun | 0 => ⟨(j 1).val % 64, Nat.mod_lt _ (by decide)⟩

/-- A place of a tile's row belongs to that tile, -/
theorem tileAt_emb (i : grid0.Coords) (h : Fin k0_t1_loop.trips) (y : S64.Idx) : tileAt ((oRow i h).view.emb y) = i := by
  have h0 : (i 0).val < 2 := (i 0).isLt
  have h1 : (i 1).val < 16 := (i 1).isLt
  have hy : (y 0).val < 64 := (y 0).isLt
  refine (congrArg₂ at2 ?_ ?_).trans (at2_coords i)
  · rw [oRow_one]; omega
  · rw [oRow_one]; omega

/-- to the row's head, -/
theorem headAt_emb (i : grid0.Coords) (h : Fin k0_t1_loop.trips) (y : S64.Idx) : headAt ((oRow i h).view.emb y) = h :=
  Fin.ext (oRow_zero i h y)

/-- and lies at its place within the row. -/
theorem spotAt_emb (i : grid0.Coords) (h : Fin k0_t1_loop.trips) (y : S64.Idx) : spotAt ((oRow i h).view.emb y) = y := by
  have h1 : (i 1).val < 16 := (i 1).isLt
  have hy : (y 0).val < 64 := (y 0).isLt
  funext a
  match a with
  | 0 =>
    apply Fin.ext
    show ((oRow i h).view.emb y 1).val % 64 = _
    rw [oRow_one]; omega

/-! ## The results -/

section Results

variable (d : Dev nD) (A B : S8x32768x128.Idx → F .f32) (lo hi : IVec S16 32)

/-- What a tile leaves at place `y` of its row for head `h`. -/
def rowVal (i : grid0.Coords) (h : Fin k0_t1_loop.trips) (y : S64.Idx) : F .f32 :=
  headVec d i ((xRow i h).view.read (Elt F) A) ((yRow i h).view.read (Elt F) B) (firstTok i) (begins (F := F) lo) (stops (F := F) lo hi) y

/-- All the tiles' results. -/
def tilesOut : S8x2048.Idx → F .f32 := fun j => rowVal d A B lo hi (tileAt j) (headAt j) (spotAt j)

/-- The result, read at a place of a tile's row. -/
theorem tilesOut_emb (i : grid0.Coords) (h : Fin k0_t1_loop.trips) (y : S64.Idx) :
    tilesOut d A B lo hi ((oRow i h).view.emb y) = rowVal d A B lo hi i h y := by
  unfold tilesOut; rw [tileAt_emb, headAt_emb, spotAt_emb]

/-! ## Splitting and joining -/

/-- The read share tile `i` gets. -/
def tileShare (i : grid0.Coords) : PosShare TreeShare :=
  Transfers.dealOf (Transfers.dealOf fullShare (Finset.univ : Finset (Fin 2)) (i 0)) (Finset.univ : Finset (Fin 16)) (i 1)

/-- A core and a tile as coordinates are themselves. -/
theorem at2_val (c : Fin 2) (s : Fin 16) : (at2 c.val s.val 0 : Fin 2) = c ∧ (at2 c.val s.val 1 : Fin 16) = s :=
  ⟨Fin.ext (Nat.mod_eq_of_lt c.isLt), Fin.ext (Nat.mod_eq_of_lt s.isLt)⟩

/-- A buffer owned whole is dealt to the thirty-two tiles in equal read shares. -/
theorem share_grid {ℓ : Loc nD τ sig} (f : Buf (Elt F) ℓ) :
    (ℓ ↦{fullShare} f : sProp 𝕄)
      = bigSep (Finset.univ : Finset (Fin 2)) fun c => bigSep (Finset.univ : Finset (Fin 16)) fun s => ℓ ↦{tileShare (at2 c.val s.val)} f := by
  rw [Transfers.pointsTo_deal (Finset.univ : Finset (Fin 2)) Finset.univ_nonempty fullShare]
  refine bigSep_congr fun c _ => ?_
  rw [Transfers.pointsTo_deal (Finset.univ : Finset (Fin 16)) Finset.univ_nonempty]
  refine bigSep_congr fun s _ => ?_
  unfold tileShare
  rw [(at2_val c s).1, (at2_val c s).2]

/-- The places of a tile's row, by head and token. -/
theorem mem_oRow (i : grid0.Coords) (h : Fin k0_t1_loop.trips) (j : S8x2048.Idx) :
    j ∈ (oRow i h).view.set ↔ tileAt j = i ∧ headAt j = h := by
  constructor
  · intro hj
    obtain ⟨y, -, rfl⟩ := Finset.mem_map.mp hj
    exact ⟨tileAt_emb i h y, headAt_emb i h y⟩
  · rintro ⟨rfl, rfl⟩
    refine Finset.mem_map.mpr ⟨spotAt j, Finset.mem_univ _, ?_⟩
    have hj : (j 1).val < 2048 := (j 1).isLt
    funext a
    match a with
    | 0 => exact Fin.ext (oRow_zero _ _ _)
    | 1 =>
      apply Fin.ext
      rw [oRow_one]
      show 1024 * ((j 1).val / 1024 % 2) + 64 * ((j 1).val % 1024 / 64 % 16) + (j 1).val % 64 = (j 1).val
      omega

/-- The result's buffer is the tiles' rows together. -/
theorem rows_grid (f : S8x2048.Idx → F .f32) :
    ((SparseCore.T d).loc main_v2 ↦{fullShare} f : sProp 𝕄)
      = bigSep (Finset.univ : Finset (Fin 2)) fun c => bigSep (Finset.univ : Finset (Fin 16)) fun s =>
          bigSep (Finset.univ : Finset (Fin k0_t1_loop.trips)) fun h => (SparseCore.T d).loc main_v2 ↦[(oRow (at2 c.val s.val) h).view.set]{fullShare} f := by
  have hu : (Finset.univ : Finset S8x2048.Idx)
      = (Finset.univ : Finset (Fin 2 × Fin 16 × Fin k0_t1_loop.trips)).biUnion fun p => (oRow (at2 p.1.val p.2.1.val) p.2.2).view.set := by
    symm; rw [Finset.eq_univ_iff_forall]
    intro j
    refine Finset.mem_biUnion.mpr ⟨(tileAt j 0, tileAt j 1, headAt j), Finset.mem_univ _, ?_⟩
    exact (mem_oRow _ _ _).mpr ⟨(at2_coords _).symm, rfl⟩
  have hd : ∀ p ∈ (Finset.univ : Finset (Fin 2 × Fin 16 × Fin k0_t1_loop.trips)), ∀ p' ∈ (Finset.univ : Finset (Fin 2 × Fin 16 × Fin k0_t1_loop.trips)), p ≠ p' →
      Disjoint ((oRow (at2 p.1.val p.2.1.val) p.2.2).view.set : Finset S8x2048.Idx) (oRow (at2 p'.1.val p'.2.1.val) p'.2.2).view.set := by
    intro p _ p' _ hne
    refine Finset.disjoint_left.mpr fun j hj hj' => hne ?_
    obtain ⟨h1, h2⟩ := (mem_oRow _ _ _).mp hj
    obtain ⟨h1', h2'⟩ := (mem_oRow _ _ _).mp hj'
    have e := h1.symm.trans h1'
    have e0 := congrFun e 0
    have e1 := congrFun e 1
    rw [(at2_val p.1 p.2.1).1, (at2_val p'.1 p'.2.1).1] at e0
    rw [(at2_val p.1 p.2.1).2, (at2_val p'.1 p'.2.1).2] at e1
    exact Prod.ext e0 (Prod.ext e1 (h2.symm.trans h2'))
  have hb := pointsTo_biUnion (τ := τ) (Val := Elt F) (Ix := HIx 1) (Name := ℕ) (U := UU) (Lvl := ℕ) (ℓ := (SparseCore.T d).loc main_v2) (q := fullShare) (f := f)
    (Finset.univ : Finset (Fin 2 × Fin 16 × Fin k0_t1_loop.trips)) (fun p => (oRow (at2 p.1.val p.2.1.val) p.2.2).view.set) hd
  rw [← hu] at hb
  rw [hb, bigSep_univ_prod]
  exact bigSep_congr fun c _ => bigSep_univ_prod _

/-- What the launch holds for the tiles: the inputs, the bounds and the result, whole. -/
def wholes (d : Dev nD) (A B : S8x32768x128.Idx → F .f32) (lo hi : IVec S16 32) (f : S8x2048.Idx → F .f32) : sProp 𝕄 :=
  iprop(((SparseCore.T d).loc main_arg0 ↦{fullShare} A) ∗ ((SparseCore.T d).loc main_arg1 ↦{fullShare} B) ∗ ((SparseCore.T d).loc main_v0 ↦{fullShare} lo)
    ∗ ((SparseCore.T d).loc main_v1 ↦{fullShare} hi) ∗ ((SparseCore.T d).loc main_v2 ↦{fullShare} f))

/-- What tile `i` is handed with `n` of its heads done. -/
def share (d : Dev nD) (A B : S8x32768x128.Idx → F .f32) (lo hi : IVec S16 32) (o r : S8x2048.Idx → F .f32) (n : Nat) (i : grid0.Coords) : sProp 𝕄 :=
  hand d i (tileShare i) (tileShare i) (tileShare i) (tileShare i) A B lo hi o r n

/-- What the launch holds is what the thirty-two tiles hold together. -/
theorem wholes_grid (o r f : S8x2048.Idx → F .f32) (n : Nat) (hn : ∀ h : Fin k0_t1_loop.trips, (if h.val < n then r else o) = f) :
    (wholes d A B lo hi f : sProp 𝕄)
      = bigSep (Finset.univ : Finset (Fin 2)) fun c => bigSep (Finset.univ : Finset (Fin 16)) fun s => share d A B lo hi o r n (at2 c.val s.val) := by
  unfold wholes
  rw [share_grid (ℓ := (SparseCore.T d).loc main_arg0) A, share_grid (ℓ := (SparseCore.T d).loc main_arg1) B, share_grid (ℓ := (SparseCore.T d).loc main_v0) lo,
    share_grid (ℓ := (SparseCore.T d).loc main_v1) hi, rows_grid d f]
  rw [← BI.bigSep_sep', ← BI.bigSep_sep', ← BI.bigSep_sep', ← BI.bigSep_sep']
  refine bigSep_congr fun c _ => ?_
  rw [← BI.bigSep_sep', ← BI.bigSep_sep', ← BI.bigSep_sep', ← BI.bigSep_sep']
  refine bigSep_congr fun s _ => ?_
  unfold share hand
  have e : (bigSep Finset.univ (piece d (at2 c.val s.val) o r n) : sProp 𝕄)
      = bigSep (Finset.univ : Finset (Fin k0_t1_loop.trips)) fun h => (SparseCore.T d).loc main_v2 ↦[(oRow (at2 c.val s.val) h).view.set]{fullShare} f :=
    bigSep_congr fun h _ => by unfold piece; rw [hn h]
  rw [e]

end Results

end Cert.Proof

end
-- ==== Proof.Handoff.lean ====
/-
  The SparseCore launch's payloads, carrying values: what goes to the tiles and what comes back, and the tile's
  obligation at the symbolic (core, tile) pair.
-/
module

public import proofs.«01_k».proof.Proof.Launch
public import Idealize.ShloMosaic.Lib.Pipeline.Kit

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The launch's arrays by name -/

/-- The two factors on device `d`, -/
abbrev inX (d : Dev nD) : S8x32768x128.Idx → F .f32 := m ((SparseCore.T d).loc main_arg0)
abbrev inY (d : Dev nD) : S8x32768x128.Idx → F .f32 := m ((SparseCore.T d).loc main_arg1)
/-- the segment offsets, -/
abbrev offs (d : Dev nD) : IVec S17 32 := m ((SparseCore.T d).loc main_arg2)
/-- the first sixteen of them and the last sixteen. -/
def lows (d : Dev nD) : IVec S16 32 := extractStridedSlice S16 ![0] (offs m d) slices_S17_S16_0
def highs (d : Dev nD) : IVec S16 32 := extractStridedSlice S16 ![1] (offs m d) slices_S17_S16_1
/-- The tiles' result before the call, and after it. -/
abbrev old (d : Dev nD) : S8x2048.Idx → F .f32 := m ((SparseCore.T d).loc main_v2)
def scOut (d : Dev nD) : S8x2048.Idx → F .f32 := tilesOut d (inX m d) (inY m d) (lows m d) (highs m d)

/-! ## The payloads -/

/-- Tile `(c, s)`'s part with `n` heads done. -/
def part (d : Dev nD) (n c s : ℕ) : sProp 𝕄 :=
  share d (inX m d) (inY m d) (lows m d) (highs m d) (old m d) (scOut m d) n (at2 c s)

instance part_storable (d : Dev nD) (n c s : ℕ) : BI.Storable (upEmb : UEmb _ 𝕄) (part m d n c s) := by
  unfold part share hand
  have : ∀ h, BI.Storable (upEmb : UEmb _ 𝕄) (piece d (at2 c s) (old m d) (scOut m d) n h) := fun h => by
    unfold piece; infer_instance
  infer_instance

def P : (K (F := F)).Pay (nD := nD) (Val := Elt F) (Name := ℕ) (U := UU) where
  st q d c := match q with | 0 => bigSep (Finset.univ : Finset (Fin ((K (F := F)).nSub 0))) fun s => part m d 0 c.val s.val
  dn q d c := match q with | 0 => bigSep (Finset.univ : Finset (Fin ((K (F := F)).nSub 0))) fun s => part m d k0_t1_loop.trips c.val s.val
  go q d c s := match q with | 0 => part m d 0 c.val s.val
  td q d c s := match q with | 0 => part m d k0_t1_loop.trips c.val s.val
  x := fun _ _ => iprop(emp)

instance P_storable : (P (F := F) m).IsStorable where
  st q d c := by match q with | 0 => unfold P; infer_instance
  dn q d c := by match q with | 0 => unfold P; infer_instance
  go q d c s := by match q with | 0 => unfold P; exact part_storable m d _ _ _
  td q d c s := by match q with | 0 => unfold P; exact part_storable m d _ _ _

/-- Handing a proposition on, against a later proposition handed back. -/
theorem pass_on (X Y : sProp 𝕄) : X ⊢ |={Set.univ}=> iprop(X ∗ (Y -∗ Y)) := by
  iintro H; imodintro
  isplitl [H]; · iexact H
  iintro H; iexact H

/-- What the call hands to SparseCore `c`. -/
theorem P_st (d : Dev nD) (c : Fin ((K (F := F)).nCore 0)) :
    (P (F := F) m).st 0 d c = bigSep (Finset.univ : Finset (Fin ((K (F := F)).nSub 0))) fun s => part m d 0 c.val s.val := rfl
/-- What SparseCore `c` brings back. -/
theorem P_dn (d : Dev nD) (c : Fin ((K (F := F)).nCore 0)) :
    (P (F := F) m).dn 0 d c = bigSep (Finset.univ : Finset (Fin ((K (F := F)).nSub 0))) fun s => part m d k0_t1_loop.trips c.val s.val := rfl
/-- What tile `s` of it takes. -/
theorem P_go (d : Dev nD) (c : Fin ((K (F := F)).nCore 0)) (s : Fin ((K (F := F)).nSub 0)) : (P (F := F) m).go 0 d c s = part m d 0 c.val s.val := rfl
/-- What the tile brings back. -/
theorem P_td (d : Dev nD) (c : Fin ((K (F := F)).nCore 0)) (s : Fin ((K (F := F)).nSub 0)) :
    (P (F := F) m).td 0 d c s = part m d k0_t1_loop.trips c.val s.val := rfl

/-- A sequencer's payload is its sixteen tiles' payloads. -/
theorem vecSplit : (K (F := F)).VecSplit' (P m) 0 := by
  intro d c
  rw [P_st, P_dn]
  simp only [P_go, P_td]
  exact pass_on _ _

/-! ## The tile's obligation -/

/-- The grid point the launch runs a tile at. -/
def coordsV (c : Fin (grid0.bound 0)) (s : Fin (grid0.bound 1)) : grid0.Coords :=
  fun | 0 => c | 1 => s | ⟨_ + 2, h⟩ => absurd h (Nat.not_lt.2 (Nat.le_add_left _ _))

/-- The tile's grid coordinates are its core and its index. -/
theorem coordsV_eq (c : Fin (grid0.bound 0)) (s : Fin (grid0.bound 1)) : coordsV c s = at2 c.val s.val := by
  funext a
  match a with
  | 0 => exact Fin.ext (Nat.mod_eq_of_lt c.isLt).symm
  | 1 => exact Fin.ext (Nat.mod_eq_of_lt s.isLt).symm

/-- The body that a tile runs. -/
theorem defs₀_vector (c : Fin τ.nSC) (s : Fin τ.nSub) :
    defs₀ (F := F) (.scVector c s) 0 ()
      = SparseCore.onTile hcore0 hsub0 (fun c s => cc0__sc_body (coordsV c s) mX (Memref.isWhole_whole _) mY (Memref.isWhole_whole _) mLo (Memref.isWhole_whole _)
          mHi (Memref.isWhole_whole _) mOut (Memref.isWhole_whole _) bLo (Memref.isWhole_whole _) bHi (Memref.isWhole_whole _) bX (Memref.isWhole_whole _)
          bY (Memref.isWhole_whole _) bOut (Memref.isWhole_whole _) cc0_scoped0 cc0_scoped1 cc0_scoped2 cc0_scoped3 cc0_scoped4) ⟨⟩ c s := rfl

/-- A tile waits on nobody through the call's own cell. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile, symbolic in its core and index, runs from its part to its part with all heads done. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hgo : (P m).go 0 d c i = share d (inX m d) (inY m d) (lows m d) (highs m d) (old m d) (scOut m d) 0 (coordsV ⟨_, hci.1⟩ ⟨_, hci.2⟩) := by
    rw [coordsV_eq]; rfl
  have htd : (P m).td 0 d c i = share d (inX m d) (inY m d) (lows m d) (highs m d) (old m d) (scOut m d) k0_t1_loop.trips (coordsV ⟨_, hci.1⟩ ⟨_, hci.2⟩) := by
    rw [coordsV_eq]; rfl
  rw [hgo, htd]
  exact (task_run d (coordsV ⟨_, hci.1⟩ ⟨_, hci.2⟩) (tileShare _) (tileShare _) (tileShare _) (tileShare _) (inX m d) (inY m d) (lows m d) (highs m d)
    (old m d) (scOut m d) (fun h y => tilesOut_emb d (inX m d) (inY m d) (lows m d) (highs m d) _ h y) O W hO).trans (wp_mono frame _ _ fun _ => obl_post (q := 0))

/-! ## The call's operands and results, whole -/

/-- Before the call the tiles' parts are the whole buffers, the result at its old contents; -/
theorem st_eq (d : Dev nD) : (bigSep Finset.univ fun c : Fin ((K (F := F)).nCore 0) => (P m).st 0 d c)
    = wholes d (inX m d) (inY m d) (lows m d) (highs m d) (old m d) :=
  (wholes_grid d (inX m d) (inY m d) (lows m d) (highs m d) (old m d) (scOut m d) (old m d) 0 (fun h => if_neg (Nat.not_lt_zero _))).symm

/-- after it, the whole buffers with the result at the tiles' values. -/
theorem dn_eq (d : Dev nD) : (bigSep Finset.univ fun c : Fin ((K (F := F)).nCore 0) => (P m).dn 0 d c)
    = wholes d (inX m d) (inY m d) (lows m d) (highs m d) (scOut m d) :=
  (wholes_grid d (inX m d) (inY m d) (lows m d) (highs m d) (old m d) (scOut m d) (scOut m d) k0_t1_loop.trips (fun h => if_pos h.isLt)).symm

end Cert.Proof

end
-- ==== Proof.Region.lean ====
/-
  The TensorCore kernel's body on whole staging buffers: what it leaves in its output block, as a function of the two
  input blocks and the prefetched offsets.
-/
module

public import proofs.«01_k».proof.Proof.Base
public import Idealize.ShloMosaic.Lib.Pipeline.RegionArraysTS
public import Idealize.ShloMosaic.Lib.Pipeline.Value

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Offset `k` of the seventeen. -/
def word (T : IVec S17 32) (k : ℕ) : BitVec 32 := T (fun | 0 => ⟨k % 17, Nat.mod_lt _ (by decide)⟩)

/-- What the body at grid point `i` leaves in its output block. -/
def tcBlock (i : grid1.Coords) (T : IVec S17 32) (x0 x1 : Vec F S8x2048x128 .f32) : Vec F S8x2048 .f32 :=
  k1_pay9 (k1_pay1 x0 x1) (k1_pay2 i)
    (k1_pay6 (F := F) (k1_pay2 i)
      (k1_pay5 (F := F) (k1_pay2 i) (k1_pay3 (F := F) i (word T 0) (word T 1) (word T 1) (word T 2)) (Scalar.minsi (word T 3) (Scalar.addi (word T 2) 4096#32))
        (k1_pay4 (F := F) (word T 2)) (word T 3) (word T 4) (word T 4) (word T 5) (word T 5) (word T 6) (word T 6) (word T 7))
      (word T 7) (word T 8) (word T 8) (word T 9) (word T 9) (word T 10) (word T 10) (word T 11))
    (k1_pay7 (F := F) (k1_pay2 i) (word T 11)) (k1_pay8 (F := F) (k1_pay2 i) (word T 11) (word T 12))
    (word T 12) (word T 13) (word T 13) (word T 14) (word T 14) (word T 15) (word T 15) (word T 16)

/-- Three zero offsets. -/
theorem zeros3 : (![0, 0, 0] : Fin S8x2048x128.rank → Nat) = fun _ => 0 := by
  funext a; match a with | 0 => rfl | 1 => rfl | 2 => rfl
/-- Two zero offsets. -/
theorem zeros2 : (![0, 0] : Fin S8x2048.rank → Nat) = fun _ => 0 := by
  funext a; match a with | 0 => rfl | 1 => rfl

/-- A word read off the prefetched offsets. -/
theorem read_word (T : IVec S17 32) (k : ℕ) (hk : k < 17) (h : ∀ a, (![k] : Fin S17.rank → Nat) a + S1.size a ≤ S17.size a) (x : S1.Idx) :
    View.readAt (Elt F) (Memref.whole main_arg2 : Memref sig .tc .smem _ _).view (Rect.unit (s := S17) ![k] S1.size h).toLoadRect T x = word T k := by
  show T _ = T _
  congr 1
  funext a
  match a with
  | 0 =>
    apply Fin.ext
    have hx : (x 0).val = 0 := Nat.lt_one_iff.mp (x 0).isLt
    show k + 1 * (x 0).val = k % 17
    rw [hx, Nat.mod_eq_of_lt hk, Nat.mul_zero, Nat.add_zero]

set_option maxRecDepth 65536 in
set_option maxHeartbeats 20000000 in
/-- The body at any grid point, on any whole staging buffers. -/
theorem tc_run [∀ e, Nonempty (Elt F e)] (c : Dev nD) (i : grid1.Coords) (M0 : Memref sig .tc .vmem S8x2048x128 .f32) (h0 : M0.IsWhole)
    (M1 : Memref sig .tc .vmem S8x2048x128 .f32) (h1 : M1.IsWhole) (M2 : Memref sig .tc .vmem S8x2048 .f32) (h2 : M2.IsWhole)
    (T : IVec S17 32) (x0 x1 : Vec F S8x2048x128 .f32) (Q : PUnit → sProp 𝕄) :
    iprop(((Memref.whole main_arg2 : Memref sig .tc .smem _ _).view.loc (c : Thread nD τ) ↦{fullShare} T) ∗ owns (c : Thread nD τ) M0 fullShare x0 ∗ owns (c : Thread nD τ) M1 fullShare x1
        ∗ (∃ x, owns (c : Thread nD τ) M2 fullShare x)
        ∗ (iprop(((Memref.whole main_arg2 : Memref sig .tc .smem _ _).view.loc (c : Thread nD τ) ↦{fullShare} T) ∗ owns (c : Thread nD τ) M0 fullShare x0 ∗ owns (c : Thread nD τ) M1 fullShare x1
            ∗ owns (c : Thread nD τ) M2 fullShare (tcBlock i T x0 x1)) -∗ Q ⟨⟩))
      ⊢ wp frame (wpE (defs₀ (F := F)) 𝒱₀ (c : Thread nD τ) none) Set.univ
          (cc1__tc_body i (Memref.whole main_arg2) (Memref.isWhole_whole _) M0 h0 M1 h1 M2 h2) Q := by
  rw [cc1__tc_body_eq_skeleton]; unfold cc1__tc_body_skel
  rw [k1_part1_eq_skeleton, k1_part2_eq_skeleton, k1_part3_eq_skeleton, k1_part4_eq_skeleton]
  unfold k1_part1_skel k1_part2_skel k1_part3_skel k1_part4_skel owns
  iintro ⟨HT, ⟨%f0, %hf0, H0⟩, ⟨%f1, %hf1, H1⟩, ⟨%x2, %f2, -, H2⟩, Hk⟩
  subst hf0 hf1
  sl_exec
  sl_step
  iapply Hk
  isplitl [HT]; · iexact HT
  isplitl [H0]; · iexists f0; isplitr; · ipureintro; rfl
                  iexact H0
  isplitl [H1]; · iexists f1; isplitr; · ipureintro; rfl
                  iexact H1
  iexists _; isplitr
  swap; · iexact H2
  ipureintro
  refine (View.read_writes_eq_canon M2.view f2 [⟨Rect.unit ![0, 0] S8x2048.size inb_S8x2048_S8x2048_0_0, _⟩]
    (fun y => ⟨_, List.mem_singleton_self _, View.mem_set_unit_zero zeros2 inb_S8x2048_S8x2048_0_0 y⟩)).trans ?_
  refine (View.canon_unit_zero zeros2 inb_S8x2048_S8x2048_0_0 _).trans ?_
  have ea : View.readAt (Elt F) M0.view (Rect.unit ![0, 0, 0] S8x2048x128.size inb_S8x2048x128_S8x2048x128_0_0_0).toLoadRect f0 = View.read (Elt F) M0.view f0 :=
    View.ld_unit_zero zeros3 _ _
  have eb : View.readAt (Elt F) M1.view (Rect.unit ![0, 0, 0] S8x2048x128.size inb_S8x2048x128_S8x2048x128_0_0_0).toLoadRect f1 = View.read (Elt F) M1.view f1 :=
    View.ld_unit_zero zeros3 _ _
  have ev : tc_run.sl.v37 (F := F) T = Scalar.minsi (tc_run.sl.r_3 (F := F) T) (Scalar.addi (tc_run.sl.r_2 (F := F) T) 4096#32) := rfl
  unfold tcBlock
  rw [ea, eb, ev]
  rw [show tc_run.sl.r (F := F) T = word T 0 from read_word T 0 (by decide) _ _]
  rw [show tc_run.sl.r_1 (F := F) T = word T 1 from read_word T 1 (by decide) _ _]
  rw [show tc_run.sl.r_2 (F := F) T = word T 2 from read_word T 2 (by decide) _ _]
  rw [show tc_run.sl.r_3 (F := F) T = word T 3 from read_word T 3 (by decide) _ _]
  rw [show tc_run.sl.r_4 (F := F) T = word T 4 from read_word T 4 (by decide) _ _]
  rw [show tc_run.sl.r_5 (F := F) T = word T 5 from read_word T 5 (by decide) _ _]
  rw [show tc_run.sl.r_6 (F := F) T = word T 6 from read_word T 6 (by decide) _ _]
  rw [show tc_run.sl.r_7 (F := F) T = word T 7 from read_word T 7 (by decide) _ _]
  rw [show tc_run.sl.r_8 (F := F) T = word T 8 from read_word T 8 (by decide) _ _]
  rw [show tc_run.sl.r_9 (F := F) T = word T 9 from read_word T 9 (by decide) _ _]
  rw [show tc_run.sl.r_10 (F := F) T = word T 10 from read_word T 10 (by decide) _ _]
  rw [show tc_run.sl.r_11 (F := F) T = word T 11 from read_word T 11 (by decide) _ _]
  rw [show tc_run.sl.r_12 (F := F) T = word T 12 from read_word T 12 (by decide) _ _]
  rw [show tc_run.sl.r_13 (F := F) T = word T 13 from read_word T 13 (by decide) _ _]
  rw [show tc_run.sl.r_14 (F := F) T = word T 14 from read_word T 14 (by decide) _ _]
  rw [show tc_run.sl.r_15 (F := F) T = word T 15 from read_word T 15 (by decide) _ _]
  rw [show tc_run.sl.r_16 (F := F) T = word T 16 from read_word T 16 (by decide) _ _]

end Cert.Proof

end
-- ==== Proof.Pipe.lean ====
/-
  The TensorCore kernel's grid: its proof data at any entry contents, the body's obligation at every point, and the region
  as one step between held buffers.
-/
module

public import proofs.«01_k».proof.Proof.Region

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F]

local notation "𝕄" => MT nD τ sig (HIx 1) (Elt F) ℕ UU ℕ

-- what every buffer holds when the region is entered
variable (V : Dev nD → Valuation τ sig (Elt F))

/-- The prefetched offsets at those contents. -/
def adm : (p : Fin 1) → (pcfgs (F := F) p).Adm := fun _ => ⟨fun k => V 0 (Proc.devRef .tc (pre1.ref k)), trivial⟩

abbrev tbl : IVec S17 32 := V 0 (Proc.devRef .tc main_arg2)

/-- The block of window `w`'s array at point `t`. -/
def inBlock (c : Dev nD) (w : Fin 3) (t : Fin grid1.N) :
    (((cfg1 (adm V 0)).win w).xblock (grid1.coords t)).Idx → Elt F ((cfg1 (adm V 0)).win w).elt :=
  (((cfg1 (adm V 0)).win w).blk t).view.read (Elt F) (V c (Proc.devRef .tc (Pipeline.arrRef spec1 w)))

def blockX (c : Dev nD) (t : Fin grid1.N) : Vec F S8x2048x128 .f32 := inBlock V c 0 t
def blockY (c : Dev nD) (t : Fin grid1.N) : Vec F S8x2048x128 .f32 := inBlock V c 1 t
def blockOut (c : Dev nD) (t : Fin grid1.N) : Vec F S8x2048 .f32 := tcBlock (grid1.coords t) (tbl V) (blockX V c t) (blockY V c t)

/-- The proof data: the arrays as entered, the inputs' buffers left as fetched, the result's at the body's block. -/
def dats (p : Fin 1) (c : Dev nD) : Dat τ (Elt F) (HIx 1) ℕ UU ℕ (Pipeline.pin (pcfgs (F := F)) (adm V) p) c where
  A w := V c (Proc.devRef .tc (Pipeline.arrRef spec1 w))
  after w t := match w with | ⟨0, _⟩ => blockX V c t | ⟨1, _⟩ => blockY V c t | ⟨2, _⟩ => blockOut V c t
  Φ _ := iprop(Pipeline.scopedRest spec1 c ∗ Pipeline.prefHeld pre1 c (fun _ => fullShare) (adm V p).1)
  q _ := fullShare
  owed _ := 0

/-- The table held is one points-to. -/
theorem table_eq (c : Dev nD) : (Pipeline.prefHeld pre1 c (fun _ => fullShare) (adm V 0).1 : sProp 𝕄)
    = ((Memref.whole main_arg2 : Memref sig .tc .smem _ _).view.loc (c : Thread nD τ) ↦{fullShare} tbl V) := by
  unfold Pipeline.prefHeld
  exact bigSep_singleton

/-- Each input's block index changes at every point. -/
theorem moves_all : ∀ t : Fin grid1.N,
    ((t.val = 0 || decide (∃ h : 0 < t.val, cc1_transform_0 (grid1.coords t) ≠ cc1_transform_0 (grid1.coords ⟨t.val - 1, by omega⟩)))
      && (t.val = 0 || decide (∃ h : 0 < t.val, cc1_transform_1 (grid1.coords t) ≠ cc1_transform_1 (grid1.coords ⟨t.val - 1, by omega⟩)))) = true := by
  decide

/-- Every point fetches a block of the first input, -/
theorem fetch0 (t : Fin grid1.N) : ((cfg1 (adm V 0)).win 0).fetch t = true := by
  have h := moves_all t
  rw [Bool.and_eq_true] at h
  exact h.1
/-- and of the second. -/
theorem fetch1 (t : Fin grid1.N) : ((cfg1 (adm V 0)).win 1).fetch t = true := by
  have h := moves_all t
  rw [Bool.and_eq_true] at h
  exact h.2

/-- So the first buffer holds the point's block of the first input, -/
theorem before0 (c : Dev nD) (t : Fin grid1.N) (d) : (dats V 0 c).before 0 t d = blockX V c t :=
  (Dat.before_fetched (dats V 0 c) 0 t (fetch0 V t) d).trans rfl
/-- and the second that of the second. -/
theorem before1 (c : Dev nD) (t : Fin grid1.N) (d) : (dats V 0 c).before 1 t d = blockY V c t :=
  (Dat.before_fetched (dats V 0 c) 1 t (fetch1 V t) d).trans rfl

/-- The body's obligation at every point of the grid. -/
theorem body_obligation [∀ e, Nonempty (Elt F e)] (c : Dev nD) : BodyObligation (dats V 0 c) (defs₀ (F := F)) 𝒱₀ (none : HIx 1) Set.univ := fun t => by
  rw [bigSep_W1, bigSep_W1]
  rw [show (dats V 0 c).Φ t.castSucc = iprop(Pipeline.scopedRest spec1 c ∗ Pipeline.prefHeld pre1 c (fun _ => fullShare) (adm V 0).1) from rfl,
    show (dats V 0 c).Φ t.succ = iprop(Pipeline.scopedRest spec1 c ∗ Pipeline.prefHeld pre1 c (fun _ => fullShare) (adm V 0).1) from rfl,
    scopedRest1_eq, table_eq]
  rw [show (dats V 0 c).owesAt none t.succ = (dats V 0 c).owesAt none t.castSucc from rfl]
  iintro ⟨⟨He, HT⟩, Ho, ⟨%d0, H0⟩, ⟨%d1, H1⟩, ⟨%d2, H2⟩⟩
  ihave H0' := (Entails.of_eq (congrArg (fun X => owns (c : Thread nD τ) (stage1_0 ((Pipeline.pin (pcfgs (F := F)) (adm V) 0).slots t 0)) fullShare X) (before0 V c t d0))) $$ H0
  ihave H1' := (Entails.of_eq (congrArg (fun X => owns (c : Thread nD τ) (stage1_1 ((Pipeline.pin (pcfgs (F := F)) (adm V) 0).slots t 1)) fullShare X) (before1 V c t d1))) $$ H1
  iapply (tc_run c (grid1.coords t) _ _ _ _ _ _ (tbl V) (blockX V c t) (blockY V c t) _)
  isplitl [HT]; · iexact HT
  isplitl [H0']; · iexact H0'
  isplitl [H1']; · iexact H1'
  isplitl [H2]; · iexists _; iexact H2
  iintro ⟨HT, H0, H1, H2⟩
  isplitl [He HT]
  · isplitl [He] <;> iassumption
  isplitl [Ho]; · iexact Ho
  isplitl [H0]; · iexact H0
  isplitl [H1]; · iexact H1
  iexact H2

/-- No semaphore of the region's windows lies above level zero, and nothing is owed. -/
theorem level_cut : Pipeline.LevelCut (nD := nD) (τ := τ) (pcfgs (F := F)) (adm V) (none : HIx 1) (K (F := F)).L (K (F := F)).lev 0
    (fun _ => (0 : CellTallies nD τ sig (HIx 1))) (fun _ => 0) where
  hι c w s := Finset.mem_univ _
  hιb c w s := le_refl _
  hD c g i h := absurd h (lt_irrefl _)

/-- There is one device. -/
theorem dev_eq (c : Dev nD) : c = 0 := Subsingleton.elim _ _

set_option backward.isDefEq.respectTransparency.types false in
/-- The region, entered from the buffers `S` held at `V`. -/
def region [∀ e, Nonempty (Elt F e)] (S : Finset (DevRef τ sig)) :
    Pipeline.RegionSeg (pcfgs (F := F)) (adm V) (dats V) (none : HIx 1) defs₀ 𝒱₀ (K (F := F)).L (K (F := F)).lev 0 :=
  Pipeline.RegionSeg.ofHeldInT (pcfgs (F := F)) (adm V) (dats V) (none : HIx 1) defs₀ 𝒱₀ (K (F := F)).L (K (F := F)).lev 0
    (fun _ => (0 : CellTallies nD τ sig (HIx 1))) S (fun _ => iprop(emp)) (fun _ => iprop(emp)) launch1
    (fun c => (body_obligation V c).loose) (fun _ _ => rfl) (fun _ => rfl) (fun c w => (dats V 0 c).share_full (fun _ => rfl) w)
    (fun c => by
      rw [show (dats V 0 c).Φ 0 = iprop(Pipeline.scopedRest spec1 c ∗ Pipeline.prefHeld pre1 c (fun _ => fullShare) (adm V 0).1) from rfl]
      iintro ⟨⟨Hs, -⟩, Ht⟩
      isplitl [Hs] <;> iassumption)
    (fun c => by
      rw [show (dats V 0 c).Φ (Fin.last (Pipeline.pin (pcfgs (F := F)) (adm V) 0).N)
        = iprop(Pipeline.scopedRest spec1 c ∗ Pipeline.prefHeld pre1 c (fun _ => fullShare) (adm V 0).1) from rfl]
      iintro ⟨Hs, Ht⟩
      isplitl [Hs]
      · isplitl [Hs]; · iexact Hs
        iempintro
      iexact Ht)
    (fun _ => 0) (level_cut V) (fun _ => iprop(emp)) V (fun _ _ => rfl) (fun c _ => by rw [dev_eq c]; rfl)

set_option backward.isDefEq.respectTransparency.types false in
/-- The region's entry, from the buffers held and nothing owed, -/
theorem region_pre [∀ e, Nonempty (Elt F e)] {S : Finset (DevRef τ sig)} (hS : Pipeline.arrRefs (pcfgs (F := F) 0).spec ⊆ S) (hS' : Pipeline.tblRefs (pcfgs (F := F) 0).pre ⊆ S) (c : Dev nD) :
    iprop(StableHlo.held (c.tc : Thread nD τ) S (V c) ∗ ((∃ Wd, owes (c : Thread nD τ) (0 : CellTallies nD τ sig (HIx 1)) Wd) ∗ emp ∗ emp))
      ⊢ (region V S).pre c := by
  unfold region
  exact Pipeline.RegionSeg.ofHeldInT_pre (pcs := pcfgs (F := F)) (a := adm V) (pdats := dats V) (ι := (none : HIx 1)) (defs₀ := defs₀) (𝒱₀ := 𝒱₀) (L := (K (F := F)).L) (lv := (K (F := F)).lev) (p := 0) (D := fun _ => (0 : CellTallies nD τ sig (HIx 1))) (X := fun _ => iprop(emp)) (Y := fun _ => iprop(emp)) (R := fun _ => iprop(emp)) (W := V) (S := S) (kit := launch1) (b := fun _ => 0) (hcut := level_cut V) (hbody := fun c => (body_obligation V c).loose) (howed := fun _ _ => rfl) (hrec := fun _ => rfl) (hshare := fun c w => (dats V 0 c).share_full (fun _ => rfl) w) (hW := fun _ _ => rfl) (hT := fun c _ => by rw [dev_eq c]; rfl) hS hS' c

set_option backward.isDefEq.respectTransparency.types false in
/-- and its exit. -/
theorem region_post [∀ e, Nonempty (Elt F e)] {S : Finset (DevRef τ sig)} (hS : Pipeline.arrRefs (pcfgs (F := F) 0).spec ⊆ S) (hS' : Pipeline.tblRefs (pcfgs (F := F) 0).pre ⊆ S) (c : Dev nD) :
    (region V S).post c
      ⊢ iprop(StableHlo.held (c.tc : Thread nD τ) S (Pipeline.afterRegion (dats V 0 c) (V c)) ∗ ((∃ Wd, owes (c : Thread nD τ) (0 : CellTallies nD τ sig (HIx 1)) Wd) ∗ emp ∗ emp)) := by
  unfold region
  exact Pipeline.RegionSeg.ofHeldInT_post (pcs := pcfgs (F := F)) (a := adm V) (pdats := dats V) (ι := (none : HIx 1)) (defs₀ := defs₀) (𝒱₀ := 𝒱₀) (L := (K (F := F)).L) (lv := (K (F := F)).lev) (p := 0) (D := fun _ => (0 : CellTallies nD τ sig (HIx 1))) (X := fun _ => iprop(emp)) (Y := fun _ => iprop(emp)) (R := fun _ => iprop(emp)) (W := V) (S := S) (kit := launch1) (b := fun _ => 0) (hcut := level_cut V) (hbody := fun c => (body_obligation V c).loose) (howed := fun _ _ => rfl) (hrec := fun _ => rfl) (hshare := fun c w => (dats V 0 c).share_full (fun _ => rfl) w) (hW := fun _ _ => rfl) (hT := fun c _ => by rw [dev_eq c]; rfl) hS hS' c

end Cert.Proof

end
-- ==== Proof.Main.lean ====
/-
  The whole run: the host's slices, the SparseCore call, the TensorCore region, the concatenation, and what every buffer
  of the program holds at the end.
-/
module

public import proofs.«01_k».proof.Proof.Handoff
public import proofs.«01_k».proof.Proof.Pipe

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.ShloMosaic.StableHlo (held)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The handshakes' component of the ghost state, -/
abbrev EH : Emb UH (MT nD τ sig (HIx 1) (Elt F) ℕ UU ℕ) := embL
/-- and the pipeline's. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_lands : (EB : Emb UB 𝕄).LandsIn (upEmb : UEmb _ 𝕄) := by unfold EB; infer_instance

variable (m : (ℓ : Loc nD τ sig) → Buf (Elt F) ℓ) (ρ : Dev nD → PrngReg)

/-! ## The buffers of @main -/

abbrev r0 : DevRef τ sig := Proc.devRef .tc (main_arg0 : Ref sig .tc)
abbrev r1 : DevRef τ sig := Proc.devRef .tc (main_arg1 : Ref sig .tc)
abbrev r2 : DevRef τ sig := Proc.devRef .tc (main_arg2 : Ref sig .tc)
abbrev rLo : DevRef τ sig := Proc.devRef .tc (main_v0 : Ref sig .tc)
abbrev rHi : DevRef τ sig := Proc.devRef .tc (main_v1 : Ref sig .tc)
abbrev rSc : DevRef τ sig := Proc.devRef .tc (main_v2 : Ref sig .tc)
abbrev rTc : DevRef τ sig := Proc.devRef .tc (main_v3 : Ref sig .tc)
abbrev rOut : DevRef τ sig := Proc.devRef .tc (main_v4 : Ref sig .tc)

/-- The TensorCore's unscoped buffers. -/
abbrev bufs : Finset (DevRef τ sig) := {r0, r1, rLo, rHi, rSc, r2, rTc, rOut}

/-- Those buffers held are eight points-tos. -/
theorem held_bufs (d : Dev nD) (W : Valuation τ sig (Elt F)) :
    (held (SparseCore.T d) bufs W : sProp 𝕄) = iprop(((SparseCore.T d).loc main_arg0 ↦{fullShare} W r0) ∗ ((SparseCore.T d).loc main_arg1 ↦{fullShare} W r1)
      ∗ ((SparseCore.T d).loc main_v0 ↦{fullShare} W rLo) ∗ ((SparseCore.T d).loc main_v1 ↦{fullShare} W rHi) ∗ ((SparseCore.T d).loc main_v2 ↦{fullShare} W rSc)
      ∗ ((SparseCore.T d).loc main_arg2 ↦{fullShare} W r2) ∗ ((SparseCore.T d).loc main_v3 ↦{fullShare} W rTc) ∗ (SparseCore.T d).loc main_v4 ↦{fullShare} W rOut) := by
  unfold held bufs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch's contents of a device's buffers. -/
def V0 (d : Dev nD) : Valuation τ sig (Elt F) := fun b => m (d, b)

/-- The launch deals the eight buffers at their launch contents. -/
theorem unscoped_held (d : Dev nD) : (unscopedBufs d (fun b => m ((SparseCore.T d).loc b)) : sProp 𝕄) = held (SparseCore.T d) bufs (V0 m d) := by
  unfold unscopedBufs
  rw [show (Finset.univ.filter fun b : Ref sig .tc => ¬ b.isScoped) = {main_arg0, main_arg1, main_v0, main_v1, main_v2, main_arg2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton, held_bufs]
  rfl

/-! ## The host operations and the contents after each step -/

abbrev opLo : HloOp τ sig (Elt F) := StableHlo.unary main_arg2 main_v0
  ((extractStridedSlice S16 ![0] · slices_S17_S16_0) : (⟨S17, .i32⟩ : BufTy).Contents (Elt F) → (⟨S16, .i32⟩ : BufTy).Contents (Elt F))
abbrev opHi : HloOp τ sig (Elt F) := StableHlo.unary main_arg2 main_v1
  ((extractStridedSlice S16 ![1] · slices_S17_S16_1) : (⟨S17, .i32⟩ : BufTy).Contents (Elt F) → (⟨S16, .i32⟩ : BufTy).Contents (Elt F))
/-- The two parts of the result side by side. -/
def joined (a : S8x2048.Idx → F .f32) (b : S8x30720.Idx → F .f32) : S8x32768.Idx → F .f32 :=
  concatenate S8x32768 1 [⟨S8x2048, a⟩, ⟨S8x30720, b⟩] concatenates_S8x2048_S8x30720_S8x32768_d1
abbrev opJoin : HloOp τ sig (Elt F) := StableHlo.binary main_v2 main_v3 main_v4 (joined (F := F))

def V1 (d : Dev nD) : Valuation τ sig (Elt F) := (opLo (F := F)).result (V0 m d)
def V2 (d : Dev nD) : Valuation τ sig (Elt F) := (opHi (F := F)).result (V1 m d)
/-- After the SparseCore call, when the region is entered. -/
def V3 (d : Dev nD) : Valuation τ sig (Elt F) := Function.update (V2 m d) rSc (scOut m d)
/-- After the region. -/
def V4 (d : Dev nD) : Valuation τ sig (Elt F) := Pipeline.afterRegion (dats (V3 m) 0 d) (V3 m d)
def V5 (d : Dev nD) : Valuation τ sig (Elt F) := (opJoin (F := F)).result (V4 m d)

/-- The region's result on device `d`. -/
def tcOut (d : Dev nD) : S8x30720.Idx → F .f32 := (dats (V3 m) 0 d).arrAt 2 (cfg1 (adm (V3 m) 0)).N

/-- The two slices change only their own results. -/
theorem V2_keep (d : Dev nD) (b : DevRef τ sig) (h0 : b ≠ rLo) (h1 : b ≠ rHi) : V2 m d b = m (d, b) :=
  ((opHi (F := F)).result_of_not_mem _ (by rw [StableHlo.unary_writes, Finset.mem_singleton]; exact h1)).trans
    ((opLo (F := F)).result_of_not_mem _ (by rw [StableHlo.unary_writes, Finset.mem_singleton]; exact h0))
/-- The first slice's result. -/
theorem V2_lo (d : Dev nD) : V2 m d rLo = lows m d :=
  ((opHi (F := F)).result_of_not_mem _ (by rw [StableHlo.unary_writes, Finset.mem_singleton]; decide)).trans
    ((StableHlo.unary_result main_arg2 main_v0 _ _ _ (V0 m d)).trans rfl)
/-- The second slice's result. -/
theorem V2_hi (d : Dev nD) : V2 m d rHi = highs m d :=
  (StableHlo.unary_result main_arg2 main_v1 _ _ _ (V1 m d)).trans (by
    rw [show V1 m d (Proc.devRef .tc main_arg2) = m (d, r2) from
      (opLo (F := F)).result_of_not_mem _ (by rw [StableHlo.unary_writes, Finset.mem_singleton]; decide)]
    rfl)
/-- The SparseCore call's result stands in its buffer; -/
theorem V3_sc (d : Dev nD) : V3 m d rSc = scOut m d := Function.update_self _ _ _
/-- it changes no other buffer. -/
theorem V3_of (d : Dev nD) (b : DevRef τ sig) (h : b ≠ rSc) : V3 m d b = V2 m d b := Function.update_of_ne h _ _

/-- The region's inputs keep their launch contents. -/
theorem V3_keep (d : Dev nD) (b : DevRef τ sig) (h0 : b ≠ rLo) (h1 : b ≠ rHi) (h2 : b ≠ rSc) : V3 m d b = m (d, b) :=
  (V3_of m d b h2).trans (V2_keep m d b h0 h1)

/-- The region's result stands in its buffer; -/
theorem V4_tc (d : Dev nD) : V4 m d rTc = tcOut m d := Pipeline.afterRegion_arr (dats (V3 m) 0 d) _ (launch1 (F := F)).win.arr_inj 2
/-- the first input is as it was, -/
theorem V4_r0 (d : Dev nD) : V4 m d r0 = m (d, r0) :=
  (Pipeline.afterRegion_arr (dats (V3 m) 0 d) _ (launch1 (F := F)).win.arr_inj 0).trans
    (((dats (V3 m) 0 d).arrAt_in 0 rfl _).trans (V3_keep m d r0 (by decide) (by decide) (by decide)))
/-- so is the second, -/
theorem V4_r1 (d : Dev nD) : V4 m d r1 = m (d, r1) :=
  (Pipeline.afterRegion_arr (dats (V3 m) 0 d) _ (launch1 (F := F)).win.arr_inj 1).trans
    (((dats (V3 m) 0 d).arrAt_in 1 rfl _).trans (V3_keep m d r1 (by decide) (by decide) (by decide)))
/-- and so is every buffer outside the region. -/
theorem V4_of (d : Dev nD) (b : Ref sig .tc) (hb : b ≠ main_arg0 ∧ b ≠ main_arg1 ∧ b ≠ main_v3) : V4 m d (Proc.devRef .tc b) = V3 m d (Proc.devRef .tc b) :=
  Pipeline.afterRegion_of_not_arr (dats (V3 m) 0 d) _ (fun | 0 => hb.1 | 1 => hb.2.1 | 2 => hb.2.2)

/-- The joined results stand in the program's result; -/
theorem V5_out (d : Dev nD) : V5 m d rOut = joined (scOut m d) (tcOut m d) :=
  (StableHlo.binary_result main_v2 main_v3 main_v4 _ _ _ _ (V4 m d)).trans (by
    rw [V4_tc, V4_of m d main_v2 (by decide), V3_sc])
/-- joining changes no other buffer. -/
theorem V5_of (d : Dev nD) (b : DevRef τ sig) (h : b ≠ rOut) : V5 m d b = V4 m d b :=
  (opJoin (F := F)).result_of_not_mem _ (by rw [StableHlo.binary_writes, Finset.mem_singleton]; exact h)

/-! ## The region as a step of @main -/

/-- The ghost state the region's launch needs on device `d`. -/
def G (d : Dev nD) : sProp 𝕄 :=
  iprop(Pipeline.cellsGhost (Pipeline.pin (pcfgs (F := F)) (adm (V3 m))) EB 0 d ∗ Pipeline.toksInit (Pipeline.pin (pcfgs (F := F)) (adm (V3 m))) EB 0 d)

/-- Every wait lies below the end of the call, whatever was recorded. -/
theorem below_all (d : Dev nD) (W : Waits sig (HIx 1)) : (K (F := F)).WBelow (SparseCore.T d) W (8 * 1) := by
  intro p _
  rcases p with ⟨s, _ | q⟩
  · exact Nat.zero_le _
  · have h := (K (F := F)).lev_some_le (SparseCore.T d, s) q
    have hq : q.val = 0 := by omega
    rw [hq] at h
    exact h.trans (by decide)

/-- The region's entry as the kernels' own program. -/
abbrev entryProg : Prog (TpuEff nD τ sig (Elt F) (ΛP (F := F)) .tc) PUnit := .op (.customCall (Pipeline.entry 0) ()) fun x => .ret x

/-- The region's entry, as the program spells it. -/
theorem lift_entry : SparseCore.liftProg (Q := 1) (entryProg (F := F)) = Prog.lift (.customCall (SparseCore.inner (Pipeline.entry 0)) ()) := rfl

/-- The region's arrays and its table are among the eight buffers. -/
theorem arrs_bufs : Pipeline.arrRefs (pcfgs (F := F) 0).spec ⊆ bufs := show Pipeline.arrRefs spec1 ⊆ bufs by decide
/-- The region's table is among the eight buffers. -/
theorem tbls_bufs : Pipeline.tblRefs (pcfgs (F := F) 0).pre ⊆ bufs := show Pipeline.tblRefs pre1 ⊆ bufs by decide

/-- The region's call: its buffers from the contents before it to the contents after. -/
theorem region_step [∀ e, Nonempty (Elt F e)] (κ : GSem nD τ sig → ℕ) (d : Dev nD) (Φ : PUnit → sProp 𝕄) :
    iprop((K (F := F)).ctx EH (P m) κ ∗ (K (F := F)).tcSt EH d 1 ∗ boundary (SparseCore.T d) ∗ held (SparseCore.T d) bufs (V3 m d) ∗ G m d
        ∗ (((K (F := F)).tcSt EH d 1 ∗ boundary (SparseCore.T d) ∗ held (SparseCore.T d) bufs (V4 m d)) -∗ Φ ⟨⟩))
      ⊢ wp frame (wpE ((K (F := F)).defs (D (F := F))) 𝒱 (SparseCore.T d) none) Set.univ
          (Prog.lift (.customCall (SparseCore.inner (Pipeline.entry 0)) ())) Φ := by
  rw [← lift_entry]
  have hl : _ ⊢ (_ : sProp 𝕄) := (K (F := F)).wp_liftProg (D (F := F)) 𝒱 (SparseCore.T d) Set.univ none (entryProg (F := F)) Φ
  refine BIBase.Entails.trans ?_ hl
  unfold SparseCore.Cfg.tcSt G
  rw [(K (F := F)).Otc_end d (le_refl 1)]
  iintro ⟨#Hctx, ⟨⟨%W, %hW, HO⟩, Hrest⟩, Hb, Hh, ⟨Hg, Ht⟩, Hk⟩
  ihave Hlev := (SparseCore.Cfg.ctx_levAts κ) $$ Hctx
  iapply (Pipeline.RegionSeg.wp (pcfgs (F := F)) (adm (V3 m)) (dats (V3 m)) (none : HIx 1) (cellOf_inj (adm (V3 m))) EB defs₀ 𝒱₀ (K (F := F)).L (K (F := F)).lev
    (region (V3 m) bufs) d none (fun _ h => nomatch h) (fun x => .ret x) Φ)
  isplitl [Hk Hrest]
  · iintro ⟨Hb, Hpost⟩
    ihave Hpost' := (region_post (V3 m) (S := bufs) arrs_bufs tbls_bufs d) $$ Hpost
    icases Hpost' with ⟨Hh, ⟨%W', HO⟩, -, -⟩
    rw [wp_ret]; imodintro
    iapply Hk
    isplitl [HO Hrest]
    · isplitl [HO]
      · iexists W'
        isplitr; · ipureintro; exact below_all d W'
        iexact HO
      iexact Hrest
    isplitl [Hb]; · iexact Hb
    iexact Hh
  isplitl [Hb]; · iexact Hb
  isplitl [Hh HO]
  · iapply (region_pre (V3 m) (S := bufs) arrs_bufs tbls_bufs d)
    isplitl [Hh]; · iexact Hh
    isplitl [HO]; · iexists W; iexact HO
    isplitr <;> iempintro
  isplitl [Hlev]; · iexact Hlev
  isplitl [Hg] <;> iassumption

/-! ## @main -/

/-- The buffers a call of the SparseCore takes, and the three it leaves alone. -/
theorem held_split (d : Dev nD) (W : Valuation τ sig (Elt F)) (f : S8x2048.Idx → F .f32) (h0 : W r0 = inX m d) (h1 : W r1 = inY m d)
    (h2 : W rLo = lows m d) (h3 : W rHi = highs m d) (h4 : W rSc = f) :
    (held (SparseCore.T d) bufs W : sProp 𝕄) = iprop(wholes d (inX m d) (inY m d) (lows m d) (highs m d) f
      ∗ ((SparseCore.T d).loc main_arg2 ↦{fullShare} W r2) ∗ ((SparseCore.T d).loc main_v3 ↦{fullShare} W rTc) ∗ (SparseCore.T d).loc main_v4 ↦{fullShare} W rOut) := by
  rw [held_bufs, h0, h1, h2, h3, h4]
  unfold wholes
  have e (P Q R : sProp 𝕄) : iprop((P ∗ Q) ∗ R) = iprop(P ∗ Q ∗ R) := BI.Entails.antisymm BI.sep_assoc BI.sep_assoc'
  simp only [e]

/-- The eight buffers before the SparseCore call. -/
theorem held_V2 (d : Dev nD) :
    (held (SparseCore.T d) bufs (V2 m d) : sProp 𝕄) = iprop(wholes d (inX m d) (inY m d) (lows m d) (highs m d) (old m d)
      ∗ ((SparseCore.T d).loc main_arg2 ↦{fullShare} V2 m d r2) ∗ ((SparseCore.T d).loc main_v3 ↦{fullShare} V2 m d rTc) ∗ (SparseCore.T d).loc main_v4 ↦{fullShare} V2 m d rOut) :=
  held_split m d _ _ (V2_keep m d r0 (by decide) (by decide)) (V2_keep m d r1 (by decide) (by decide)) (V2_lo m d) (V2_hi m d)
    (V2_keep m d rSc (by decide) (by decide))

/-- The eight buffers after it. -/
theorem held_V3 (d : Dev nD) :
    (held (SparseCore.T d) bufs (V3 m d) : sProp 𝕄) = iprop(wholes d (inX m d) (inY m d) (lows m d) (highs m d) (scOut m d)
      ∗ ((SparseCore.T d).loc main_arg2 ↦{fullShare} V2 m d r2) ∗ ((SparseCore.T d).loc main_v3 ↦{fullShare} V2 m d rTc) ∗ (SparseCore.T d).loc main_v4 ↦{fullShare} V2 m d rOut) :=
  (held_split m d _ _ ((V3_of m d r0 (by decide)).trans (V2_keep m d r0 (by decide) (by decide)))
    ((V3_of m d r1 (by decide)).trans (V2_keep m d r1 (by decide) (by decide))) ((V3_of m d rLo (by decide)).trans (V2_lo m d))
    ((V3_of m d rHi (by decide)).trans (V2_hi m d)) (V3_sc m d)).trans (by
    rw [V3_of m d r2 (by decide), V3_of m d rTc (by decide), V3_of m d rOut (by decide)])

/-- The first slice's buffers are among the eight; -/
theorem lo_bufs : (opLo (F := F)).bufs ⊆ bufs := show ({r2, rLo} : Finset (DevRef τ sig)) ⊆ bufs by decide
/-- so are the second's, -/
theorem hi_bufs : (opHi (F := F)).bufs ⊆ bufs := show ({r2, rHi} : Finset (DevRef τ sig)) ⊆ bufs by decide
/-- and those of the joining. -/
theorem join_bufs : (opJoin (F := F)).bufs ⊆ bufs := show ({rSc, rTc, rOut} : Finset (DevRef τ sig)) ⊆ bufs by decide

/-- What @main leaves the claim: its buffers at their last contents. -/
abbrev FIN (d : Dev nD) : sProp 𝕄 := held (SparseCore.T d) bufs (V5 m d)

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G m d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  iapply (StableHlo.wp_hlo_within 𝒱 (SparseCore.T d) none Set.univ (op := opLo) (S := bufs) lo_bufs (V := V0 m d)) $$ [Hb Hheld]
  · isplitl [Hb] <;> iassumption
  iintro ⟨Hb, Hheld⟩
  rw [wp_ret]; imodintro
  iapply (StableHlo.wp_hlo_within 𝒱 (SparseCore.T d) none Set.univ (op := opHi) (S := bufs) hi_bufs (V := V1 m d)) $$ [Hb Hheld]
  · isplitl [Hb]; · iexact Hb
    iexact Hheld
  iintro ⟨Hb, Hheld⟩
  rw [wp_ret]; imodintro
  ihave Hh := (show (held (SparseCore.T d) bufs ((opHi (F := F)).result (V1 m d)) : sProp 𝕄) ⊢ _ from Entails.of_eq (held_V2 m d)) $$ Hheld
  icases Hh with ⟨Hw, Hw2, Hw3, Hw4⟩
  iapply ((K (F := F)).wp_run (D (F := F)) 𝒱 (EH := EH) (P := P m) κ d 0)
  isplitr; · iexact Hctx
  isplitl [Hst]; · iexact Hst
  rw [st_eq, dn_eq]
  isplitl [Hw]; · iexact Hw
  iintro ⟨Hst, Hdn⟩
  ihave Hheld := (Entails.of_eq (held_V3 m d).symm) $$ [Hdn Hw2 Hw3 Hw4]
  · isplitl [Hdn]; · iexact Hdn
    isplitl [Hw2]; · iexact Hw2
    isplitl [Hw3]; · iexact Hw3
    iexact Hw4
  iapply (region_step m κ d _)
  isplitr; · iexact Hctx
  isplitl [Hst]; · iexact Hst
  isplitl [Hb]; · iexact Hb
  isplitl [Hheld]; · iexact Hheld
  isplitl [HG]; · iexact HG
  iintro ⟨Hst, Hb, Hheld⟩
  iapply (StableHlo.wp_hlo_within 𝒱 (SparseCore.T d) none Set.univ (op := opJoin) (S := bufs) join_bufs (V := V4 m d)) $$ [Hb Hheld]
  · isplitl [Hb]; · iexact Hb
    iexact Hheld
  iintro ⟨Hb, Hheld⟩
  rw [wp_ret]; imodintro; imodintro
  isplitl [Hst]; · iexact Hst
  isplitl [Hheld]; · iexact Hheld
  isplitl [Hb] <;> iassumption

/-! ## The launch -/

/-- The ghost state of the launch: the handshakes' cells, and the region's. -/
def u₀ : UU := (initOf (K (F := F)).hsCells (K (F := F)).hsToks,
  (initOf (Pipeline.cells (Pipeline.pin (pcfgs (F := F)) (adm (V3 m))) (cellOf_inj (adm (V3 m))))
    (Pipeline.launchToks (Pipeline.pin (pcfgs (F := F)) (adm (V3 m))) (cellOf_inj (adm (V3 m)))), 1))

/-- The two halves of the ghost state are owned apart. -/
theorem ghost_halves (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The launch's ghost state funds the handshakes and the region on every device. -/
theorem hu₀ : (ownU (u₀ m) : sProp 𝕄)
    ⊢ |={Set.univ}=> iprop(BI.own (EH (initOf (K (F := F)).hsCells (K (F := F)).hsToks)) ∗ (bigSep Finset.univ fun d : Dev nD => G m d)
        ∗ (bigSep Finset.univ fun thr : Thread nD τ => bigSep Finset.univ fun q : Fin 1 => (P m).x q thr) : sProp 𝕄) := by
  unfold u₀
  iintro Hu
  ihave H := (ghost_halves _ _) $$ Hu
  icases H with ⟨HH, HB⟩
  imod (Pipeline.fund_ghost (Pipeline.pin (pcfgs (F := F)) (adm (V3 m))) EB (cellOf_inj (adm (V3 m)))) $$ HB with ⟨Hc, Ht⟩
  imodintro
  isplitl [HH]; · iexact HH
  isplitl [Hc Ht]
  · unfold G
    rw [BI.bigSep_sep']
    have one (f : Dev nD → Fin 1 → sProp 𝕄) : (bigSep Finset.univ fun c => bigSep Finset.univ fun p => f c p) = bigSep Finset.univ fun c => f c 0 :=
      bigSep_congr fun c _ => by rw [show (Finset.univ : Finset (Fin 1)) = {0} from rfl, bigSep_singleton]
    ihave Hc' := (Entails.of_eq (one fun c p => Pipeline.cellsGhost (Pipeline.pin (pcfgs (F := F)) (adm (V3 m))) EB p c)) $$ Hc
    ihave Ht' := (Entails.of_eq (one fun c p => Pipeline.toksInit (Pipeline.pin (pcfgs (F := F)) (adm (V3 m))) EB p c)) $$ Ht
    isplitl [Hc'] <;> iassumption
  unfold P; dsimp only
  rw [show (bigSep Finset.univ fun _ : Thread nD τ => bigSep Finset.univ fun _ : Fin 1 => (iprop(emp) : sProp 𝕄)) = iprop(emp) from
    (bigSep_congr fun _ _ => bigSep_emp_const _).trans (bigSep_emp_const _)]
  iempintro

/-! ## The end -/

/-- What a final state says of device `d`: the arguments as launched, the result the two parts side by side. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_v4) = joined (scOut m d) (tcOut m d)

/-- What the machine's state holds of a buffer owned whole. -/
theorem reads_whole (s' : Phys nD τ sig (Elt F)) (ℓ : Loc nD τ sig) (f : Buf (Elt F) ℓ) :
    iprop(SI s' ∗ (ℓ ↦{fullShare} f)) ⊢ iprop(⌜s'.mem.mem ℓ = f⌝ ∗ SI s' : sProp 𝕄) := by
  have h : iprop(SI s' ∗ (ℓ ↦{fullShare} f)) ⊢ (⌜s'.mem.mem ℓ = f⌝ : sProp 𝕄) := by
    iintro ⟨HSI, H⟩
    ihave H' := (SI_pointsTo_agree (st := s') (ℓ := ℓ) (I := Finset.univ) (q := fullShare) (f := f)) $$ [HSI H]
    · isplitl [HSI] <;> iassumption
    icases H' with %hx
    ipureintro; exact funext fun i => hx i (Finset.mem_univ i)
  iintro H
  ihave H' := (persistent_entails_right h) $$ H
  icases H' with ⟨%hx, HSI, -⟩
  isplitr; · ipureintro; exact hx
  iexact HSI

/-- At the end the three arguments are as at the launch. -/
theorem V5_args (d : Dev nD) : V5 m d r0 = m (d, r0) ∧ V5 m d r1 = m (d, r1) ∧ V5 m d r2 = m (d, r2) :=
  ⟨(V5_of m d r0 (by decide)).trans (V4_r0 m d), (V5_of m d r1 (by decide)).trans (V4_r1 m d),
    (V5_of m d r2 (by decide)).trans ((V4_of m d main_arg2 (by decide)).trans (V3_keep m d r2 (by decide) (by decide) (by decide)))⟩

/-- The buffers left by @main say so of every final state. -/
theorem hfin (d : Dev nD) (s' : Phys nD τ sig (Elt F)) : iprop(FIN m d ∗ SI s') ⊢ (⌜fq m d s'⌝ : sProp 𝕄) := by
  unfold FIN
  rw [held_bufs, V5_out, (V5_args m d).1, (V5_args m d).2.1, (V5_args m d).2.2]
  iintro ⟨⟨H0, H1, -, -, -, H2, -, H3⟩, HSI⟩
  ihave X := (reads_whole s' _ _) $$ [HSI H0]
  · isplitl [HSI] <;> iassumption
  icases X with ⟨%h0, HSI⟩
  ihave X := (reads_whole s' _ _) $$ [HSI H1]
  · isplitl [HSI] <;> iassumption
  icases X with ⟨%h1, HSI⟩
  ihave X := (reads_whole s' _ _) $$ [HSI H2]
  · isplitl [HSI] <;> iassumption
  icases X with ⟨%h2, HSI⟩
  ihave X := (reads_whole s' _ _) $$ [HSI H3]
  · isplitl [HSI] <;> iassumption
  icases X with ⟨%h3, -⟩
  ipureintro; exact ⟨h0, h1, h2, h3⟩

/-- Every final state: what `fq` says on every device, and every semaphore at zero. -/
def QC : PUnit × MemSt nD τ sig (Elt F) → Prop := fun r =>
  (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_v4) = joined (scOut m c) (tcOut m c)) ∧ r.2.sem = fun _ => 0

/-- The program runs from any contents to such a state. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (G m) (FIN m) (u₀ m) (sep_elim_left.trans (hu₀ m)) (hmain m ρ) (fq m) (hfin m) (QC m) (fun _ h hz => ⟨h, hz⟩)

end Cert.Proof

end
-- ==== Proof.Frames.lean ====
/-
  What the three programs leave: each runs, keeps its arguments, and ends with every semaphore at zero.
-/
module

public import proofs.«01_k».proof.Defs
public import proofs.«01_k».proof.Proof.Main
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

/-- The two programs' kernels are the same text, label by label; -/
theorem bodies_same {F : FTy → Type} [FloatOps F] :
    Cert.Kernel.defs₀ (F := F) = Cert.KernelIdeal.defs₀ := by
  funext p ℓ a
  cases p with
  | tc => match ℓ with
    | 0 => rfl
    | 1 => rfl
  | scScalar c => match ℓ with
    | 0 => rfl
    | 1 => rfl
  | scVector c s => match ℓ with
    | 0 => rfl
    | 1 => rfl

/-- so their body tables are the same. -/
theorem tables_same {F : FTy → Type} [FloatOps F] :
    Cert.Kernel.defs (F := F) = Cert.KernelIdeal.defs :=
  congrArg (fun D => Cert.KernelIdeal.sc.defs (Pipeline.defs Cert.KernelIdeal.pcfgs D)) bodies_same

/-- The kernel at bits keeps its arguments and ends quiescent: the run at any float values, taken at bits. -/
theorem frame_kernel : Cert.quiescent_Kernel (hKernel := Cert.Kernel.Gen.facts) := fun m ρ _ => by
  rw [tables_same]
  exact (θ_run Cert.KernelIdeal.defs _ _).mono (fun _ h => ⟨fun c => ⟨(h.1 c).1, (h.1 c).2.1, (h.1 c).2.2.1⟩, h.2⟩) (run_main (F := Bits) m ρ)

/-- The same run, taken at ideal values. -/
theorem frame_kernelIdeal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1⟩, h.2⟩) (run_main (F := Ideal) m ρ)

/-- The reference keeps its arguments, and has no semaphore to leave raised. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Seg.lean ====
/-
  The tokens a segment covers: the one mask both kernels compute, each in its own way.
-/
module

public import proofs.«01_k».proof.Proof.Region
public import Idealize.ShloMosaic.Lib.Pointwise

@[expose] public section

noncomputable section

namespace Cert.Proof

open Cert.KernelIdeal Cert.KernelIdeal.Gen
open Idealize.ShloMosaic Idealize.ShloMosaic.TcCoe

/-- Token `t` lies in the segment from `b` to `e`, cut at 4096 tokens. -/
def within (b e t : BitVec 32) : Bool := b.sle t && t.slt (IntOp.minsi e (IntOp.addi b 4096#32))

/-- One more segment in the tally. -/
def tally (T : IVec S17 32) (t : BitVec 32) (a : Bool) (k : ℕ) : Bool := a || within (word T k) (word T (k + 1)) t

/-- Token `t` lies in one of the sixteen segments. -/
def covered (T : IVec S17 32) (t : BitVec 32) : Bool :=
  [0, 1, 2, 3, 4, 5, 6, 7, 8, 9, 10, 11, 12, 13, 14, 15].foldl (tally T t) false

/-- A tally of segments is true just when it started true or one of them covers the token. -/
theorem tally_foldl (T : IVec S17 32) (t : BitVec 32) (l : List ℕ) (a : Bool) :
    l.foldl (tally T t) a = true ↔ a = true ∨ ∃ k ∈ l, within (word T k) (word T (k + 1)) t = true := by
  induction l generalizing a with
  | nil => simp
  | cons k l ih =>
    rw [List.foldl_cons, ih]
    simp only [tally, Bool.or_eq_true, List.mem_cons, exists_eq_or_imp, or_assoc]

/-- Covered: some segment has the token. -/
theorem covered_iff (T : IVec S17 32) (t : BitVec 32) : covered T t = true ↔ ∃ k, k < 16 ∧ within (word T k) (word T (k + 1)) t = true := by
  unfold covered
  rw [tally_foldl]
  constructor
  · rintro (h | ⟨k, hk, h⟩)
    · cases h
    · refine ⟨k, ?_, h⟩
      simp only [List.mem_cons, List.not_mem_nil, or_false] at hk
      omega
  · rintro ⟨k, hk, h⟩
    refine .inr ⟨k, ?_, h⟩
    simp only [List.mem_cons, List.not_mem_nil, or_false]
    omega

/-- The matrix kernel's step: one segment or-ed in. -/
theorem or_step (a : Bool) (b e t : BitVec 32) :
    IntOp.ori (BitVec.ofBool a) (IntOp.andi (IntOp.cmpi .sge t b) (IntOp.cmpi .slt t (IntOp.minsi e (IntOp.addi b 4096#32))))
      = BitVec.ofBool (a || within b e t) := by
  unfold within
  show BitVec.ofBool a ||| (BitVec.ofBool (b.sle t) &&& BitVec.ofBool (t.slt (IntOp.minsi e (IntOp.addi b 4096#32)))) = _
  rw [BitVec.ofBool_and_ofBool, BitVec.ofBool_or_ofBool]

/-- A flag as a float: one or nothing. -/
def flag (a : Bool) : EReal := if a then 1 else 0

/-- A choice on a flag word. -/
theorem select_ofBool {α : Type} (a : Bool) (x y : α) : Scalar.select (BitVec.ofBool a) x y = if a then x else y := by
  cases a <;> simp [Scalar.select]

/-- What the result holds at head `h` and token `t`: the row product of the two inputs where a segment covers the token. -/
def target (x y : FVec Ideal S8x32768x128 .f32) (T : IVec S17 32) (h : Fin 8) (t : Fin 32768) : EReal :=
  if covered T (BitVec.ofNat 32 t.val) then ∑ d : Fin 128, x (ix3 h t d) * y (ix3 h t d) else 0

end Cert.Proof

end

end
-- ==== Proof.Lanes.lean ====
/-
  The vector kernel's group of sixteen tokens, read lane by lane.
-/
module

public import proofs.«01_k».proof.Proof.Group
public import proofs.«01_k».proof.Proof.Seg

@[expose] public section

set_option maxRecDepth 16384

noncomputable section

namespace Cert.Proof

open Cert.KernelIdeal Cert.KernelIdeal.Gen
open Idealize.ShloMosaic Idealize.ShloMosaic.TcCoe

local notation "𝕍" => FVec Ideal S16 FTy.f32

/-- A lane's number. -/
theorem lanes_at (l : Fin 16) : lanes (ix1 l) = BitVec.ofNat 32 l.val := by
  pointwise [lanes]

/-- The lane whose number differs from `l`'s in the bits of `b`. -/
def partner (b : ℕ) (l : Fin 16) : Fin 16 := ⟨(l.val ^^^ b) % 16, Nat.mod_lt _ (by decide)⟩

/-- The exchange by eight, read at one lane. -/
theorem swap8_at (v : 𝕍) (l : Fin 16) : swap8 v (ix1 l) = v (ix1 (partner 8 l)) := by
  pointwise [swap8]
  fin_cases l <;> rfl

/-- The exchange by four, read at one lane. -/
theorem swap4_at (v : 𝕍) (l : Fin 16) : swap4 v (ix1 l) = v (ix1 (partner 4 l)) := by
  pointwise [swap4, clearBit, lanes]
  fin_cases l <;> rfl

/-- The exchange by two, read at one lane. -/
theorem swap2_at (v : 𝕍) (l : Fin 16) : swap2 v (ix1 l) = v (ix1 (partner 2 l)) := by
  pointwise [swap2, clearBit, lanes]
  fin_cases l <;> rfl

/-- The exchange by one, read at one lane. -/
theorem swap1_at (v : 𝕍) (l : Fin 16) : swap1 v (ix1 l) = v (ix1 (partner 1 l)) := by
  pointwise [swap1, clearBit, lanes]
  fin_cases l <;> rfl

/-- Flipping bits twice flips them together. -/
theorem partner_partner : ∀ (b c : Fin 16) (l : Fin 16), partner b.val (partner c.val l) = partner (b.val ^^^ c.val) l := by decide +kernel

/-- Exchanging `l` by `k`, and `l` by what comes out, gives `k`. -/
theorem partner_invol : ∀ l k : Fin 16, partner (partner k.val l).val l = k := by decide +kernel

/-- The sixteen lanes, met by flipping bits of one. -/
def flips (l : Fin 16) : Fin 16 ≃ Fin 16 where
  toFun k := partner k.val l
  invFun k := partner k.val l
  left_inv k := partner_invol l k
  right_inv k := partner_invol l k

/-- A sum over sixteen lanes, written out. -/
theorem sum16 (g : Fin 16 → EReal) :
    ∑ i, g i = g 0 + g 1 + g 2 + g 3 + g 4 + g 5 + g 6 + g 7 + g 8 + g 9 + g 10 + g 11 + g 12 + g 13 + g 14 + g 15 := by
  simp only [Fin.sum_univ_succ, Fin.sum_univ_zero, add_zero, ← add_assoc]
  rfl

/-- Sums of values eight, four, two and one lanes apart reach every lane once. -/
theorem exchange_sum (f : Fin 16 → EReal) (l : Fin 16) :
    (((f l + f (partner 8 l)) + (f (partner 4 l) + f (partner 8 (partner 4 l))))
      + ((f (partner 2 l) + f (partner 8 (partner 2 l))) + (f (partner 4 (partner 2 l)) + f (partner 8 (partner 4 (partner 2 l))))))
    + (((f (partner 1 l) + f (partner 8 (partner 1 l))) + (f (partner 4 (partner 1 l)) + f (partner 8 (partner 4 (partner 1 l)))))
      + ((f (partner 2 (partner 1 l)) + f (partner 8 (partner 2 (partner 1 l))))
        + (f (partner 4 (partner 2 (partner 1 l))) + f (partner 8 (partner 4 (partner 2 (partner 1 l)))))))
    = ∑ i, f i := by
  have e0 : l = partner 0 l := (by decide +kernel : ∀ l : Fin 16, l = partner 0 l) l
  have e12 : partner 8 (partner 4 l) = partner 12 l := partner_partner 8 4 l
  have e10 : partner 8 (partner 2 l) = partner 10 l := partner_partner 8 2 l
  have e6 : partner 4 (partner 2 l) = partner 6 l := partner_partner 4 2 l
  have e14 : partner 12 (partner 2 l) = partner 14 l := partner_partner 12 2 l
  have e9 : partner 8 (partner 1 l) = partner 9 l := partner_partner 8 1 l
  have e5 : partner 4 (partner 1 l) = partner 5 l := partner_partner 4 1 l
  have e13 : partner 12 (partner 1 l) = partner 13 l := partner_partner 12 1 l
  have e3 : partner 2 (partner 1 l) = partner 3 l := partner_partner 2 1 l
  have e11 : partner 10 (partner 1 l) = partner 11 l := partner_partner 10 1 l
  have e7 : partner 6 (partner 1 l) = partner 7 l := partner_partner 6 1 l
  have e15 : partner 14 (partner 1 l) = partner 15 l := partner_partner 14 1 l
  rw [← Equiv.sum_comp (flips l) f, sum16]
  show _ = f (partner 0 l) + f (partner 1 l) + f (partner 2 l) + f (partner 3 l) + f (partner 4 l) + f (partner 5 l) + f (partner 6 l) + f (partner 7 l)
    + f (partner 8 l) + f (partner 9 l) + f (partner 10 l) + f (partner 11 l) + f (partner 12 l) + f (partner 13 l) + f (partner 14 l) + f (partner 15 l)
  rw [← e0]
  have f14 : partner 8 (partner 4 (partner 2 l)) = partner 14 l := (congrArg _ e6).trans (partner_partner 8 6 l)
  have f13 : partner 8 (partner 4 (partner 1 l)) = partner 13 l := (congrArg _ e5).trans (partner_partner 8 5 l)
  have f11 : partner 8 (partner 2 (partner 1 l)) = partner 11 l := (congrArg _ e3).trans (partner_partner 8 3 l)
  have f7 : partner 4 (partner 2 (partner 1 l)) = partner 7 l := (congrArg _ e3).trans (partner_partner 4 3 l)
  have f15 : partner 8 (partner 4 (partner 2 (partner 1 l))) = partner 15 l := (congrArg _ f7).trans (partner_partner 8 7 l)
  rw [f15, f14, f13, f11, f7, e12, e10, e6, e9, e5, e3]
  ac_rfl

/-- Every lane of the exchanged sum holds the sum of the sixteen. -/
theorem laneSum_at (v : 𝕍) (l : Fin 16) : laneSum v (ix1 l) = ∑ i : Fin 16, v (ix1 i) := by
  rw [← exchange_sum (fun i => v (ix1 i)) l]
  pointwise [laneSum, swap8_at, swap4_at, swap2_at, swap1_at]

/-- Lane numbers as words are equal just when the lanes are. -/
theorem eq_lane : ∀ l k : Fin 16, IntOp.cmpi .eq (BitVec.ofNat 32 l.val) (BitVec.ofNat 32 k.val) = BitVec.ofBool (decide (l = k)) := by decide +kernel

/-- Putting a lane: the new value there, the old one elsewhere. -/
theorem putLane_at (k : Fin 16) (v res : 𝕍) (l : Fin 16) :
    putLane k v res (ix1 l) = if l = k then laneSum v (ix1 l) else res (ix1 l) := by
  pointwise [putLane, lanes]
  rw [eq_lane, select_ofBool]
  by_cases h : l = k <;> simp [h]

/-- Lane `l` of the gathered sums is the sum of row `l`'s lanes. -/
theorem gather16_at (a : Fin 16 → 𝕍) (l : Fin 16) : gather16 a (ix1 l) = ∑ i : Fin 16, a l (ix1 i) := by
  rw [← laneSum_at (a l) l]
  simp only [gather16, List.foldl_cons, List.foldl_nil, putLane_at]
  fin_cases l <;> rfl

/-- The maximum of a flag and a product of two flags is the flag of one more segment. -/
theorem max_next (a : Bool) (b e t : BitVec 32) :
    max (flag a) (Scalar.select (IntOp.cmpi .slt t (IntOp.minsi e (IntOp.addi b 4096#32))) (Scalar.select (IntOp.cmpi .sge t b) (1 : EReal) 0) 0)
      = flag (a || within b e t) := by
  unfold within flag
  show max _ (if BitVec.ofBool (t.slt (IntOp.minsi e (IntOp.addi b 4096#32))) = 1 then (if BitVec.ofBool (b.sle t) = 1 then (1 : EReal) else 0) else 0) = _
  cases a <;> cases b.sle t <;> cases t.slt (IntOp.minsi e (IntOp.addi b 4096#32)) <;> simp

/-- The first of these, from zero. -/
theorem max_first (b e t : BitVec 32) :
    max 0 (Scalar.select (IntOp.cmpi .slt t (IntOp.minsi e (IntOp.addi b 4096#32))) (Scalar.select (IntOp.cmpi .sge t b) (1 : EReal) 0) 0)
      = flag (within b e t) := max_next false b e t

/-- The mask is one exactly where some segment covers the lane's token. -/
theorem maskVec_at (b e : Fin 16 → IVec S16 32) (tv : IVec S16 32) (T : IVec S17 32) (l : Fin 16)
    (hb : ∀ k, b k (ix1 l) = word T k.val)
    (he : ∀ k, e k (ix1 l) = IntOp.minsi (word T (k.val + 1)) (IntOp.addi (word T k.val) 4096#32)) :
    maskVec (F := Ideal) b e tv (ix1 l) = flag (covered T (tv (ix1 l))) := by
  pointwise [maskVec, ones, zeros, List.foldl_cons, List.foldl_nil]
  simp only [hb, he]
  simp only [max_first, max_next]
  rfl

/-- A chunk's lane is one value of the staged array's row. -/
theorem chunk_at {thr : Thread nD τ} (a : Memref sig thr.2.kind .vmem S64x128 .f32) (f : Buf (Elt Ideal) (a.view.loc thr))
    (off : Fin S64x128.rank → Nat) (inb : ∀ x, off x + S1x16.size x ≤ S64x128.size x) (r : Fin 64) (c : Fin 128) (l : Fin 16)
    (h0 : off 0 = r.val) (h1 : off 1 + l.val = c.val) :
    chunk a f off inb (ix1 l) = (a.view.read (Elt Ideal) f : FVec Ideal S64x128 .f32) (ix2 r c) := by
  pointwise [chunk]
  rw [View.readAt_apply]
  congr 1
  funext x
  match x with
  | 0 => exact Fin.ext (by show off 0 + 1 * 0 = r.val; omega)
  | 1 => exact Fin.ext (by show off 1 + 1 * l.val = c.val; omega)

end Cert.Proof

end

end
-- ==== Proof.ScValue.lean ====
/-
  The SparseCore kernel's whole result: every head and token of the first block.
-/
module

public import proofs.«01_k».proof.Proof.Lanes
public import proofs.«01_k».proof.Proof.Handoff
public import Idealize.ShloMosaic.Lib.ValueLayout

@[expose] public section

set_option maxRecDepth 16384

noncomputable section

namespace Cert.Proof

open Cert.KernelIdeal Cert.KernelIdeal.Gen
open Idealize.ShloMosaic Idealize.ShloMosaic.TcCoe Idealize.SL.Sem

section Rows

variable (d : Dev nD) (i : grid0.Coords)
  (f : Buf (Elt Ideal) (bX.view.loc (tileOf d i))) (g : Buf (Elt Ideal) (bY.view.loc (tileOf d i)))

/-- Row `k` of group `t`, among the tile's sixty-four. -/
def rowOf (t : Fin k0_t2_loop.trips) (k : Fin 16) : Fin 64 := ⟨16 * t.val + k.val, by have := lt_of_lt_of_eq t.isLt trips2; omega⟩

/-- One product of a row: column `c`. -/
def prodAt (p q : FVec Ideal S64x128 .f32) (r : Fin 64) (c : Fin 128) : EReal := p (ix2 r c) * q (ix2 r c)

/-- Column `l` of chunk `j`. -/
def colOf (j : Fin 8) (l : Fin 16) : Fin 128 := ⟨j.val * 16 + l.val, by omega⟩

/-- A product of two chunks at a lane. -/
theorem chunks_at (off : Fin S64x128.rank → Nat) (inb : ∀ x, off x + S1x16.size x ≤ S64x128.size x) (r : Fin 64) (c : Fin 128) (l : Fin 16)
    (h : off = ![r.val, c.val - l.val]) (hc : l.val ≤ c.val) :
    mulf (chunk (thr := tileOf d i) bX f off inb) (chunk (thr := tileOf d i) bY g off inb) (ix1 l) = prodAt f g r c := by
  have h0 : off 0 = r.val := by rw [h]; rfl
  have h1 : off 1 + l.val = c.val := by rw [h]; show c.val - l.val + l.val = c.val; omega
  exact Ideal.mul_congr (chunk_at (thr := tileOf d i) bX f off inb r c l h0 h1) (chunk_at (thr := tileOf d i) bY g off inb r c l h0 h1)

/-- A row's eight chunks added up, read at one lane. -/
theorem rowAcc_at (t : Fin k0_t2_loop.trips) (k l : Fin 16) :
    rowAcc d i f g t k (ix1 l) = ∑ j : Fin 8, prodAt f g (rowOf t k) (colOf j l) := by
  have e : ∀ q : Fin 8 → EReal, ∑ j, q j = q 0 + q 1 + q 2 + q 3 + q 4 + q 5 + q 6 + q 7 := fun q => by
    simp only [Fin.sum_univ_succ, Fin.sum_univ_zero, add_zero, ← add_assoc]; rfl
  rw [e]
  unfold rowAcc
  refine Ideal.add_congr (Ideal.add_congr (Ideal.add_congr (Ideal.add_congr (Ideal.add_congr (Ideal.add_congr (Ideal.add_congr ?_ ?_) ?_) ?_) ?_) ?_) ?_) ?_
  · refine chunks_at d i f g _ _ (rowOf t k) (colOf 0 l) l ((k0_off2_eq t k).trans ?_) (by show l.val ≤ 0 * 16 + l.val; omega)
    show _ = ![16 * t.val + k.val, 0 * 16 + l.val - l.val]
    rw [Nat.add_sub_cancel]
  · refine chunks_at d i f g _ _ (rowOf t k) (colOf 1 l) l ((k0_off3_eq t k).trans ?_) (by show l.val ≤ 1 * 16 + l.val; omega)
    show _ = ![16 * t.val + k.val, 1 * 16 + l.val - l.val]
    rw [Nat.add_sub_cancel]
  · refine chunks_at d i f g _ _ (rowOf t k) (colOf 2 l) l ((k0_off4_eq t k).trans ?_) (by show l.val ≤ 2 * 16 + l.val; omega)
    show _ = ![16 * t.val + k.val, 2 * 16 + l.val - l.val]
    rw [Nat.add_sub_cancel]
  · refine chunks_at d i f g _ _ (rowOf t k) (colOf 3 l) l ((k0_off5_eq t k).trans ?_) (by show l.val ≤ 3 * 16 + l.val; omega)
    show _ = ![16 * t.val + k.val, 3 * 16 + l.val - l.val]
    rw [Nat.add_sub_cancel]
  · refine chunks_at d i f g _ _ (rowOf t k) (colOf 4 l) l ((k0_off6_eq t k).trans ?_) (by show l.val ≤ 4 * 16 + l.val; omega)
    show _ = ![16 * t.val + k.val, 4 * 16 + l.val - l.val]
    rw [Nat.add_sub_cancel]
  · refine chunks_at d i f g _ _ (rowOf t k) (colOf 5 l) l ((k0_off7_eq t k).trans ?_) (by show l.val ≤ 5 * 16 + l.val; omega)
    show _ = ![16 * t.val + k.val, 5 * 16 + l.val - l.val]
    rw [Nat.add_sub_cancel]
  · refine chunks_at d i f g _ _ (rowOf t k) (colOf 6 l) l ((k0_off8_eq t k).trans ?_) (by show l.val ≤ 6 * 16 + l.val; omega)
    show _ = ![16 * t.val + k.val, 6 * 16 + l.val - l.val]
    rw [Nat.add_sub_cancel]
  · refine chunks_at d i f g _ _ (rowOf t k) (colOf 7 l) l ((k0_off9_eq t k).trans ?_) (by show l.val ≤ 7 * 16 + l.val; omega)
    show _ = ![16 * t.val + k.val, 7 * 16 + l.val - l.val]
    rw [Nat.add_sub_cancel]

/-- Lane `l` of a group's row sums is its row's whole product. -/
theorem rowSums_at (t : Fin k0_t2_loop.trips) (l : Fin 16) :
    rowSums d i f g t (ix1 l) = ∑ c : Fin 128, prodAt f g (rowOf t l) c := by
  unfold rowSums
  rw [gather16_at]
  rw [Fin.sum_univ_tiles 8 16 rfl (fun c => prodAt f g (rowOf t l) c), Finset.sum_comm]
  exact Finset.sum_congr rfl fun i' _ => rowAcc_at d i f g t l i'

end Rows

/-- Segment `k`'s begin stands in every lane. -/
theorem begins_at (lo : IVec S16 32) (k l : Fin 16) : begins (F := Ideal) lo k (ix1 l) = lo (ix1 k) := by
  unfold begins splat
  pointwise [k0_pay107]

/-- So does the smaller of its end and its begin plus 4096. -/
theorem stops_at (lo hi : IVec S16 32) (k l : Fin 16) :
    stops (F := Ideal) lo hi k (ix1 l) = IntOp.minsi (hi (ix1 k)) (IntOp.addi (lo (ix1 k)) 4096#32) := by
  unfold stops splat
  pointwise [k0_pay108, k0_pay107]

/-- The word of a tile's base, its group and its lane is the token's number. -/
theorem token_number : ∀ (c : Fin 2) (s : Fin 16) (t : Fin k0_t2_loop.trips) (l : Fin 16),
    (((BitVec.ofNat 32 c.val * 16#32 + BitVec.ofNat 32 s.val) * 64#32) + (0#32 + Scf.iv 0#32 1#32 t * 1#32) * 16#32) + BitVec.ofNat 32 l.val
      = BitVec.ofNat 32 (1024 * c.val + 64 * s.val + 16 * t.val + l.val) := by decide +kernel

/-- The tokens of a group, read at one lane. -/
theorem tokens_at (i : grid0.Coords) (t : Fin k0_t2_loop.trips) (l : Fin 16) :
    tokens (firstTok i) t (ix1 l) = BitVec.ofNat 32 (1024 * (i 0).val + 64 * (i 1).val + 16 * t.val + l.val) := by
  rw [← token_number (i 0) (i 1) t l]
  pointwise [tokens, firstTok, lanes]
  rfl

/-- The staged row of the first input, read at one place. -/
theorem xRow_at (i : grid0.Coords) (h : Fin k0_t1_loop.trips) (d : Dev nD) (A : Buf (Elt Ideal) (mX.view.loc (tileOf d i))) (r : Fin 64) (c : Fin 128)
    (h' : Fin 8) (hh : h'.val = h.val) (hl : 1024 * (i 0).val + 64 * (i 1).val + r.val < 32768) :
    ((xRow i h).view.read (Elt Ideal) A : FVec Ideal S64x128 .f32) (ix2 r c)
      = (A : FVec Ideal S8x32768x128 .f32) (ix3 h' ⟨1024 * (i 0).val + 64 * (i 1).val + r.val, hl⟩ c) := by
  show A _ = A _
  congr 1
  show (Rect.unit (s := S8x32768x128) (k0_off1 i h) S1x64x128.size (k0_off1_inb i h)).emb (Shape.reshapeEquiv squeezes_S1x64x128_S64x128.numel_eq (ix2 r c)) = _
  refine (congrArg _ (ValueIdx.reshapeEquiv_ix2_1ab squeezes_S1x64x128_S64x128.numel_eq r c)).trans ?_
  funext a
  match a with
  | 0 => exact Fin.ext (by show k0_off1 i h 0 + 1 * 0 = h'.val; rw [k0_off1_eq, hh]; rfl)
  | 1 => exact Fin.ext (by show k0_off1 i h 1 + 1 * r.val = _; rw [k0_off1_eq, Nat.one_mul]; rfl)
  | 2 => exact Fin.ext (by show k0_off1 i h 2 + 1 * c.val = c.val; rw [k0_off1_eq, Nat.one_mul]; exact Nat.zero_add _)

/-- The staged row of the second input, read at one place. -/
theorem yRow_at (i : grid0.Coords) (h : Fin k0_t1_loop.trips) (d : Dev nD) (A : Buf (Elt Ideal) (mY.view.loc (tileOf d i))) (r : Fin 64) (c : Fin 128)
    (h' : Fin 8) (hh : h'.val = h.val) (hl : 1024 * (i 0).val + 64 * (i 1).val + r.val < 32768) :
    ((yRow i h).view.read (Elt Ideal) A : FVec Ideal S64x128 .f32) (ix2 r c)
      = (A : FVec Ideal S8x32768x128 .f32) (ix3 h' ⟨1024 * (i 0).val + 64 * (i 1).val + r.val, hl⟩ c) := by
  show A _ = A _
  congr 1
  show (Rect.unit (s := S8x32768x128) (k0_off1 i h) S1x64x128.size (k0_off1_inb i h)).emb (Shape.reshapeEquiv squeezes_S1x64x128_S64x128.numel_eq (ix2 r c)) = _
  refine (congrArg _ (ValueIdx.reshapeEquiv_ix2_1ab squeezes_S1x64x128_S64x128.numel_eq r c)).trans ?_
  funext a
  match a with
  | 0 => exact Fin.ext (by show k0_off1 i h 0 + 1 * 0 = h'.val; rw [k0_off1_eq, hh]; rfl)
  | 1 => exact Fin.ext (by show k0_off1 i h 1 + 1 * r.val = _; rw [k0_off1_eq, Nat.one_mul]; rfl)
  | 2 => exact Fin.ext (by show k0_off1 i h 2 + 1 * c.val = c.val; rw [k0_off1_eq, Nat.one_mul]; exact Nat.zero_add _)

/-- A sum masked by a flag. -/
theorem mul_flag (x : EReal) (a : Bool) : x * flag a = if a then x else 0 := by cases a <;> simp [flag]

/-- A tile's result at one place. -/
theorem rowVal_at (d : Dev nD) (A B : FVec Ideal S8x32768x128 .f32) (lo hi : IVec S16 32) (T : IVec S17 32)
    (hlo : ∀ k : Fin 16, lo (ix1 k) = word T k.val) (hhi : ∀ k : Fin 16, hi (ix1 k) = word T (k.val + 1))
    (i : grid0.Coords) (h : Fin k0_t1_loop.trips) (h' : Fin 8) (hh : h'.val = h.val) (y : Fin 64)
    (hl : 1024 * (i 0).val + 64 * (i 1).val + y.val < 32768) :
    rowVal (F := Ideal) d A B lo hi i h (ix1 y) = target A B T h' ⟨1024 * (i 0).val + 64 * (i 1).val + y.val, hl⟩ := by
  obtain ⟨t, ht⟩ : ∃ t, t = groupOf (ix1 y) := ⟨_, rfl⟩
  obtain ⟨l, hl'⟩ : ∃ l : Fin 16, ix1 l = laneOf (ix1 y) := ⟨laneOf (ix1 y) 0, (eq_ix1 _).symm⟩
  have et : t.val = y.val / 16 := by rw [ht]; rfl
  have el : l.val = y.val % 16 := by
    have := congrArg (fun q : S16.Idx => (q 0).val) hl'
    exact this
  have er : rowOf t l = y := Fin.ext (by show 16 * t.val + l.val = y.val; omega)
  have eT : 1024 * (i 0).val + 64 * (i 1).val + 16 * t.val + l.val = 1024 * (i 0).val + 64 * (i 1).val + y.val := by omega
  unfold rowVal headVec groupVec
  rw [← ht, ← hl']
  have e1 := rowSums_at d i ((xRow i h).view.read (Elt Ideal) A) ((yRow i h).view.read (Elt Ideal) B) t l
  have e2 := maskVec_at (begins (F := Ideal) lo) (stops (F := Ideal) lo hi) (tokens (firstTok i) t) T l
    (fun k => (begins_at lo k l).trans (hlo k)) (fun k => by rw [stops_at, hlo, hhi])
  rw [tokens_at, eT] at e2
  rw [er] at e1
  refine (Ideal.mul_congr e1 e2).trans ((mul_flag _ _).trans ?_)
  unfold target
  refine if_congr Iff.rfl ?_ rfl
  exact Finset.sum_congr rfl fun c _ => Ideal.mul_congr (xRow_at i h d A y c h' hh hl) (yRow_at i h d B y c h' hh hl)

/-- All the tiles' results, at one head and token. -/
theorem tilesOut_at (d : Dev nD) (A B : FVec Ideal S8x32768x128 .f32) (lo hi : IVec S16 32) (T : IVec S17 32)
    (hlo : ∀ k : Fin 16, lo (ix1 k) = word T k.val) (hhi : ∀ k : Fin 16, hi (ix1 k) = word T (k.val + 1))
    (h : Fin 8) (j : Fin 2048) (hj : j.val < 32768) :
    tilesOut (F := Ideal) d A B lo hi (ix2 h j) = target A B T h ⟨j.val, hj⟩ := by
  have e0 : (tileAt (ix2 h j) 0).val = j.val / 1024 % 2 := rfl
  have e1 : (tileAt (ix2 h j) 1).val = j.val % 1024 / 64 % 16 := rfl
  have ey : spotAt (ix2 h j) = ix1 (⟨j.val % 64, Nat.mod_lt _ (by decide)⟩ : Fin 64) := by
    funext a; match a with | 0 => rfl
  have hs : 1024 * (tileAt (ix2 h j) 0).val + 64 * (tileAt (ix2 h j) 1).val + (⟨j.val % 64, Nat.mod_lt _ (by decide)⟩ : Fin 64).val = j.val := by
    rw [e0, e1]; show _ + j.val % 64 = _; omega
  unfold tilesOut
  rw [ey]
  refine (rowVal_at d A B lo hi T hlo hhi (tileAt (ix2 h j)) (headAt (ix2 h j)) h rfl _ (lt_of_eq_of_lt hs hj)).trans ?_
  congr 1
  exact Fin.ext hs

section Launched

variable (m : (ℓ : Loc nD τ sig) → Buf (Elt Ideal) ℓ) (d : Dev nD)

/-- The first slice holds the offsets, -/
theorem lows_at (k : Fin 16) : lows m d (ix1 k) = word (offs m d) k.val := by
  unfold lows
  pointwise
  unfold word
  congr 1
  funext a
  match a with
  | 0 => exact Fin.ext (Nat.mod_eq_of_lt (by have := k.isLt; omega : k.val < 17)).symm
/-- the second the offsets one later. -/
theorem highs_at (k : Fin 16) : highs m d (ix1 k) = word (offs m d) (k.val + 1) := by
  unfold highs
  pointwise
  unfold word
  congr 1
  funext a
  match a with
  | 0 => exact Fin.ext (by show 1 + k.val = (k.val + 1) % 17; have := k.isLt; omega)

/-- The SparseCore kernel's result at one head and token. -/
theorem scOut_at (h : Fin 8) (j : Fin 2048) (hj : j.val < 32768) :
    scOut m d (ix2 h j) = target (inX m d) (inY m d) (offs m d) h ⟨j.val, hj⟩ :=
  tilesOut_at d (inX m d) (inY m d) (lows m d) (highs m d) (offs m d) (lows_at m d) (highs_at m d) h j hj

end Launched

end Cert.Proof

end

end
-- ==== Proof.TcBlock.lean ====
/-
  The TensorCore kernel's block, read at one head and token.
-/
module

public import proofs.«01_k».proof.Proof.Seg

@[expose] public section

set_option maxRecDepth 16384

noncomputable section

namespace Cert.Proof

open Cert.KernelIdeal Cert.KernelIdeal.Gen
open Idealize.ShloMosaic Idealize.ShloMosaic.TcCoe

/-- The token a block's column stands for. -/
theorem pay2_at (i : grid1.Coords) (h : Fin 8) (j : Fin 2048) :
    k1_pay2 i (ix2 h j) = BitVec.ofNat 32 (2048 + 2048 * (i 0).val + j.val) := by
  have e : (BitVec.ofNat 32 (i 0).val + 1#32) * 2048#32 + BitVec.ofNat 32 j.val = BitVec.ofNat 32 (2048 + 2048 * (i 0).val + j.val) := by
    rw [show (1#32 : BitVec 32) = BitVec.ofNat 32 1 from rfl, show (2048#32 : BitVec 32) = BitVec.ofNat 32 2048 from rfl,
      ← BitVec.ofNat_add, ← BitVec.ofNat_mul, ← BitVec.ofNat_add]
    congr 1
    omega
  pointwise [k1_pay2]
  exact e

/-- The products of the two blocks summed along each row. -/
theorem pay1_at (x y : FVec Ideal S8x2048x128 .f32) (h : Fin 8) (j : Fin 2048) :
    k1_pay1 (F := Ideal) x y (ix2 h j) = ∑ d : Fin 128, x (ix3 h j d) * y (ix3 h j d) := by
  pointwise [k1_pay1]

/-- The block at one head and column. -/
theorem tcBlock_at (i : grid1.Coords) (T : IVec S17 32) (x y : FVec Ideal S8x2048x128 .f32) (h : Fin 8) (j : Fin 2048) :
    tcBlock (F := Ideal) i T x y (ix2 h j)
      = if covered T (BitVec.ofNat 32 (2048 + 2048 * (i 0).val + j.val)) then ∑ d : Fin 128, x (ix3 h j d) * y (ix3 h j d) else 0 := by
  rw [← pay2_at i h j, ← pay1_at]
  unfold tcBlock
  pointwise [k1_pay9, k1_pay8, k1_pay7, k1_pay6, k1_pay5, k1_pay4, k1_pay3]
  simp only [show (0#1 : BitVec 1) = BitVec.ofBool false from rfl, Scalar.minsi, Scalar.addi, or_step]
  exact select_ofBool _ _ _

end Cert.Proof

end

end
-- ==== Proof.TcValue.lean ====
/-
  The TensorCore kernel's whole result: every head and token of the last fifteen blocks.
-/
module

public import proofs.«01_k».proof.Proof.TcBlock
public import proofs.«01_k».proof.Proof.Pipe
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe Idealize.SL Idealize.SL.Sem
open Idealize.ShloMosaic.Pipeline (Dat)

variable (V : Dev nD → Valuation τ sig (Elt Ideal))

/-- The result array the region leaves, read at the last fifteen blocks' tokens. -/
def tcTarget (x y : FVec Ideal S8x32768x128 .f32) (T : IVec S17 32) : FVec Ideal S8x30720 .f32 :=
  fun j => target x y T (j 0) ⟨2048 + (j 1).val, by have : (j 1).val < 30720 := (j 1).isLt; omega⟩

/-- Some contents, to fix the windows' tables: the windows do not depend on them. -/
def blank : Dev nD → Valuation τ sig (Elt Ideal) := fun _ _ _ => Classical.choice inferInstance

/-- The result's blocks cover its array. -/
theorem covers_out : ((cfg1 (adm blank 0)).win 2).Covers := by decide +kernel

/-- The windows' blocks at point `t`. -/
theorem index_0 : ∀ t : Fin grid1.N, cc1_transform_0 (grid1.coords t) = ![0, t.val + 1, 0] := by decide +kernel
/-- The second input's block at each point, -/
theorem index_1 : ∀ t : Fin grid1.N, cc1_transform_1 (grid1.coords t) = ![0, t.val + 1, 0] := by decide +kernel
/-- and the result's. -/
theorem index_2 : ∀ t : Fin grid1.N, cc1_transform_2 (grid1.coords t) = ![0, t.val] := by decide +kernel
/-- A point's coordinate is its number. -/
theorem coord_0 : ∀ t : Fin grid1.N, (grid1.coords t 0).val = t.val := by decide +kernel

/-- The same, as the pipeline spells the first window, -/
theorem ix_0 (t : Fin grid1.N) : ((pcfg1 (F := Ideal)).win (adm V 0) 0).index t = ![0, t.val + 1, 0] := index_0 t
/-- and the second. -/
theorem ix_1 (t : Fin grid1.N) : ((pcfg1 (F := Ideal)).win (adm V 0) 1).index t = ![0, t.val + 1, 0] := index_1 t

/-- The first input's block at point `t`, read at one place. -/
theorem blockX_at (c : Dev nD) (t : Fin grid1.N) (h : Fin 8) (j : Fin 2048) (d : Fin 128) (hl : 2048 + 2048 * t.val + j.val < 32768) :
    blockX V c t (ix3 h j d) = (V c (Proc.devRef .tc main_arg0) : FVec Ideal S8x32768x128 .f32) (ix3 h ⟨2048 + 2048 * t.val + j.val, hl⟩ d) := by
  unfold blockX inBlock
  show V c (Proc.devRef .tc main_arg0) _ = _
  congr 1
  blk_ext [ix_0 V t]

/-- The second input's block at point `t`, read at one place. -/
theorem blockY_at (c : Dev nD) (t : Fin grid1.N) (h : Fin 8) (j : Fin 2048) (d : Fin 128) (hl : 2048 + 2048 * t.val + j.val < 32768) :
    blockY V c t (ix3 h j d) = (V c (Proc.devRef .tc main_arg1) : FVec Ideal S8x32768x128 .f32) (ix3 h ⟨2048 + 2048 * t.val + j.val, hl⟩ d) := by
  unfold blockY inBlock
  show V c (Proc.devRef .tc main_arg1) _ = _
  congr 1
  blk_ext [ix_1 V t]

/-- The result's block at point `t`, read at one place. -/
theorem blockOut_at (c : Dev nD) (t : Fin grid1.N) (h : Fin 8) (j : Fin 2048) (hl : 2048 * t.val + j.val < 30720) :
    blockOut V c t (ix2 h j)
      = tcTarget (V c (Proc.devRef .tc main_arg0)) (V c (Proc.devRef .tc main_arg1)) (tbl V) (ix2 h ⟨2048 * t.val + j.val, hl⟩) := by
  have hl' : 2048 + 2048 * t.val + j.val < 32768 := by omega
  refine (tcBlock_at (grid1.coords t) (tbl V) (blockX V c t) (blockY V c t) h j).trans ?_
  rw [coord_0 t]
  have ec : (⟨2048 + (2048 * t.val + j.val), by omega⟩ : Fin 32768) = ⟨2048 + 2048 * t.val + j.val, hl'⟩ := Fin.ext (by simp only []; omega)
  show _ = target _ _ _ h (⟨2048 + (2048 * t.val + j.val), by omega⟩ : Fin 32768)
  rw [ec]
  unfold target
  refine if_congr Iff.rfl ?_ rfl
  exact Finset.sum_congr rfl fun d _ => Ideal.mul_congr (blockX_at V c t h j d hl') (blockY_at V c t h j d hl')

/-- The region leaves the result array at the row products of the tokens some segment covers. -/
theorem tcOut_eq (c : Dev nD) :
    (dats V 0 c).arrAt 2 (cfg1 (adm V 0)).N
      = tcTarget (V c (Proc.devRef .tc main_arg0)) (V c (Proc.devRef .tc main_arg1)) (tbl V) := by
  refine (dats V 0 c).arrAt_eq_of_covers 2 _ ?_ fun t hf y => ?_
  · exact covers_out
  · blk_simp
    have ht : t.val < 15 := lt_of_lt_of_eq t.isLt N_1
    obtain ⟨h, j, rfl⟩ : ∃ (h : Fin 8) (j : Fin 2048), y = (ix2 h j : S8x2048.Idx) := ⟨_, _, eq_ix2 (n0 := 8) (n1 := 2048) y⟩
    refine (blockOut_at V c t h j (by have := j.isLt; omega)).trans ?_
    congr 1
    blk_ext
    · show h.val = cc1_transform_2 (grid1.coords t) 0 * 8 + h.val
      rw [index_2 t]
      simp
    · show 2048 * t.val + j.val = cc1_transform_2 (grid1.coords t) 1 * 2048 + j.val
      rw [index_2 t]
      show 2048 * t.val + j.val = t.val * 2048 + j.val
      omega

end Cert.Proof

end

end
-- ==== Proof.Sorted.lean ====
/-
  Sorted offsets, and the one segment that can cover a token when the offsets are sorted.
-/
module

public import proofs.«01_k».proof.Proof.Seg
public import proofs.«01_k».proof.Proof.Gen.Pre_sorted_offsets
public import Idealize.ShloMosaic.Lib.ReduceAll
public import Idealize.ShloMosaic.Lib.WordCmp

@[expose] public section

noncomputable section

namespace Cert.Proof

open Cert.KernelIdeal Cert.KernelIdeal.Gen
open Idealize.ShloMosaic Idealize.ShloMosaic.TcCoe

/-- Offset `k` as a number. -/
def off (T : IVec S17 32) (k : ℕ) : ℤ := (word T k).toInt

/-- The offsets are nonnegative and never go down. -/
structure Sorted (T : IVec S17 32) : Prop where
  nonneg : ∀ k, 0 ≤ off T k
  step : ∀ k, k < 16 → off T k ≤ off T (k + 1)

/-- Sorted offsets, compared at any distance. -/
theorem Sorted.le {T : IVec S17 32} (s : Sorted T) (i j : ℕ) (hij : i ≤ j) (hj : j < 17) : off T i ≤ off T j := by
  induction j, hij using Nat.le_induction with
  | base => exact le_refl _
  | succ n hn ih => exact (ih (by omega)).trans (s.step n (by omega))

/-- The words `k` and `k + 1` as the two slices of sixteen read them. -/
theorem slice_0 (T : IVec S17 32) (k : ℕ) (h : k < 16) :
    extractStridedSlice Cert.Pre_sorted_offsets.S16 ![0] T Cert.Pre_sorted_offsets.Gen.slices_S17_S16_0 (ix1 ⟨k, h⟩) = word T k := by
  unfold word
  refine congrArg T (funext fun a => Fin.ext ?_)
  match a with
  | ⟨0, _⟩ => show 0 + k = k % 17; omega

/-- The second slice starts one later. -/
theorem slice_1 (T : IVec S17 32) (k : ℕ) (h : k < 16) :
    extractStridedSlice Cert.Pre_sorted_offsets.S16 ![1] T Cert.Pre_sorted_offsets.Gen.slices_S17_S16_1 (ix1 ⟨k, h⟩) = word T (k + 1) := by
  unfold word
  refine congrArg T (funext fun a => Fin.ext ?_)
  match a with
  | ⟨0, _⟩ => show 1 + k = (k + 1) % 17; omega

/-- A word of the table is the entry at its number. -/
theorem word_ix (T : IVec S17 32) (k : ℕ) (h : k < 17) : T (ix1 ⟨k, h⟩) = word T k := by
  unfold word
  refine congrArg T (funext fun a => Fin.ext ?_)
  match a with
  | ⟨0, _⟩ => show k = k % 17; omega

/-- What the precondition says of the offsets. -/
theorem sorted_of_pre (x y : FVec Ideal S8x32768x128 .f32) (T : IVec S17 32)
    (h : Cert.Pre_sorted_offsets.fn (F := Ideal) x y T = fun _ => 1#1) : Sorted T := by
  have e := congrFun h (fun a => a.elim0)
  obtain ⟨e0, e1⟩ := IntOp.andi_eq_one.1 e
  constructor
  · intro k
    have := IntOp.cmpi_sge.1 (Host.reduce_andi_all _ _ _ _ _ e0 (ix1 ⟨k % 17, Nat.mod_lt _ (by decide)⟩))
    rw [word_ix T (k % 17) (Nat.mod_lt _ (by decide))] at this
    have ew : word T (k % 17) = word T k := by
      unfold word
      exact congrArg T (funext fun a => Fin.ext (by match a with | ⟨0, _⟩ => show k % 17 % 17 = k % 17; omega))
    rw [ew] at this
    exact this
  · intro k hk
    have := IntOp.cmpi_sle.1 (Host.reduce_andi_all _ _ _ _ _ e1 (ix1 ⟨k, hk⟩))
    exact (congrArg BitVec.toInt (slice_0 T k hk)).symm.le.trans (this.trans (congrArg BitVec.toInt (slice_1 T k hk)).le)

/-- How many offsets are at most `t`. -/
def upTo (T : IVec S17 32) (t : ℤ) : ℕ := (Finset.univ.filter fun q : Fin 17 => off T q.val ≤ t).card

/-- At most all seventeen. -/
theorem upTo_le (T : IVec S17 32) (t : ℤ) : upTo T t ≤ 17 := by
  refine (Finset.card_le_univ _).trans ?_
  simp

/-- Of sorted offsets, those at most `t` are the first ones. -/
theorem off_le_iff {T : IVec S17 32} (s : Sorted T) (t : ℤ) (q : ℕ) (hq : q < 17) : off T q ≤ t ↔ q < upTo T t := by
  constructor
  · intro h
    have hs : Finset.Iic (⟨q, hq⟩ : Fin 17) ⊆ Finset.univ.filter fun q : Fin 17 => off T q.val ≤ t := fun i hi =>
      Finset.mem_filter.2 ⟨Finset.mem_univ _, (s.le i.val q (Fin.le_def.1 (Finset.mem_Iic.1 hi)) hq).trans h⟩
    have := Finset.card_le_card hs
    rw [Fin.card_Iic] at this
    exact this
  · intro h
    by_contra hc
    have hs : (Finset.univ.filter fun q : Fin 17 => off T q.val ≤ t) ⊆ Finset.Iio (⟨q, hq⟩ : Fin 17) := fun i hi => by
      rw [Finset.mem_Iio]
      by_contra hi'
      exact hc ((s.le q i.val (not_lt.1 hi') i.isLt).trans (Finset.mem_filter.1 hi).2)
    have := Finset.card_le_card hs
    rw [Fin.card_Iio] at this
    exact absurd h (not_lt.2 this)

/-- A segment of nonnegative bounds, read in numbers. -/
theorem within_iff (b e : BitVec 32) (t : ℕ) (ht : t < 32768) (hb : 0 ≤ b.toInt) :
    within b e (BitVec.ofNat 32 t) = true ↔ b.toInt ≤ t ∧ (t : ℤ) < e.toInt ∧ (t : ℤ) < b.toInt + 4096 := by
  have et : (BitVec.ofNat 32 t).toInt = t := WordCmp.toInt_ofNat_of_lt (by omega)
  unfold within
  simp only [Bool.and_eq_true, BitVec.sle_iff_toInt_le, BitVec.slt_iff_toInt_lt, et]
  refine and_congr_right fun h => ?_
  have ea : (IntOp.addi b 4096#32).toInt = b.toInt + 4096 := by
    show (b + 4096#32).toInt = _
    rw [BitVec.toInt_add, show (4096#32).toInt = 4096 from by decide]
    exact Int.bmod_eq_of_le (by omega) (by omega)
  unfold IntOp.minsi
  by_cases hc : e.slt (IntOp.addi b 4096#32) = true
  · rw [if_pos hc]
    rw [BitVec.slt_iff_toInt_lt, ea] at hc
    omega
  · rw [if_neg hc, ea]
    rw [BitVec.slt_iff_toInt_lt, ea] at hc
    omega

/-- The same segment as begin and length. -/
theorem length_iff (b e : BitVec 32) (t : ℕ) (ht : t < 32768) (hb : 0 ≤ b.toInt) (hbt : b.toInt ≤ t) (he : (t : ℤ) < e.toInt) :
    (BitVec.ofNat 32 t).slt (IntOp.addi b (IntOp.minsi (IntOp.subi e b) 4096#32)) = true ↔ (t : ℤ) < b.toInt + 4096 := by
  have et : (BitVec.ofNat 32 t).toInt = t := WordCmp.toInt_ofNat_of_lt (by omega)
  have hE : e.toInt < 2147483648 := by have := BitVec.toInt_lt (x := e); omega
  have es : (IntOp.subi e b).toInt = e.toInt - b.toInt := by
    show (e - b).toInt = _
    rw [BitVec.toInt_sub]
    exact Int.bmod_eq_of_le (by omega) (by omega)
  rw [BitVec.slt_iff_toInt_lt, et]
  unfold IntOp.minsi
  by_cases hc : (IntOp.subi e b).slt 4096#32 = true
  · rw [if_pos hc]
    rw [BitVec.slt_iff_toInt_lt, es, show (4096#32).toInt = 4096 from by decide] at hc
    have ea : (IntOp.addi b (IntOp.subi e b)).toInt = e.toInt := by
      show (b + (e - b)).toInt = _
      rw [BitVec.toInt_add, show (e - b).toInt = _ from es]
      rw [show b.toInt + (e.toInt - b.toInt) = e.toInt by omega]
      exact Int.bmod_eq_of_le (by omega) (by omega)
    rw [ea]
    omega
  · rw [if_neg hc]
    have ea : (IntOp.addi b 4096#32).toInt = b.toInt + 4096 := by
      show (b + 4096#32).toInt = _
      rw [BitVec.toInt_add, show (4096#32).toInt = 4096 from by decide]
      exact Int.bmod_eq_of_le (by omega) (by omega)
    rw [ea]

/-- With sorted offsets only the segment whose begin is the last offset at most `t` can cover `t`. -/
theorem covered_sorted {T : IVec S17 32} (s : Sorted T) (t : ℕ) (ht : t < 32768) :
    covered T (BitVec.ofNat 32 t) = true ↔ 1 ≤ upTo T t ∧ upTo T t ≤ 16 ∧ (t : ℤ) < off T (upTo T t - 1) + 4096 := by
  rw [covered_iff]
  constructor
  · rintro ⟨k, hk, h⟩
    obtain ⟨h0, h1, h2⟩ := (within_iff _ _ t ht (s.nonneg k)).1 h
    have a0 := (off_le_iff s t k (by omega)).1 h0
    have a1 : ¬ k + 1 < upTo T t := fun hc => absurd ((off_le_iff s t (k + 1) (by omega)).2 hc) (not_le.2 h1)
    have ek : upTo T t = k + 1 := by omega
    rw [ek]
    exact ⟨by omega, by omega, h2⟩
  · rintro ⟨h0, h1, h2⟩
    obtain ⟨k, ek⟩ : ∃ k, upTo T t = k + 1 := ⟨upTo T t - 1, by omega⟩
    rw [ek] at h1 h2
    refine ⟨k, by omega, (within_iff _ _ t ht (s.nonneg k)).2 ⟨?_, ?_, h2⟩⟩
    · exact (off_le_iff s t k (by omega)).2 (by omega)
    · exact not_le.1 fun hc => absurd ((off_le_iff s t (k + 1) (by omega)).1 hc) (by omega)

end Cert.Proof

end

end
-- ==== Proof.RefValue.lean ====
/-
  What the reference computes, read at one head and one token.
-/
module

public import proofs.«01_k».proof.Proof.Sorted
public import proofs.«01_k».proof.Proof.Gen.ReferenceIdeal.Run
public import Idealize.ShloMosaic.Lib.StableHlo.Predicate
public import Idealize.ShloMosaic.Lib.Routing.OpsSet

@[expose] public section

set_option maxRecDepth 16384

noncomputable section

namespace Cert.Proof.Ref

open Cert.ReferenceIdeal Cert.ReferenceIdeal.Gen
open Idealize.ShloMosaic Idealize.ShloMosaic.TcCoe

/-- One word at every token. -/
def all (k : BitVec 32) : IVec S32768 32 := broadcastInDim S32768 ![] bcast_S_S32768 (constantI S_ 32 k)

/-- The tokens' numbers. -/
def tokens : IVec S32768 32 := iotaInDim S32768 32 0

/-- Which offsets are at most which tokens. -/
def below (T : IVec S17 32) : IVec S32768x17 1 :=
  cmpi .sle (broadcastInDim S32768x17 ![0, 1] bcast_S1x17_S32768x17_0_1 (broadcastInDim S1x17 ![1] bcast_S17_S1x17_1 T))
    (broadcastInDim S32768x17 ![0, 1] bcast_S32768x1_S32768x17_0_1 (broadcastInDim S32768x1 ![0] bcast_S32768_S32768x1_0 tokens))

/-- The tokens' segments, one less than the offsets at most the token. -/
def segs (T : IVec S17 32) : IVec S32768 32 :=
  subi (Host.reduce IntOp.addi (extui 32 (below T) natLt_1_32) (constantI S_ 32 0#32) reducesTo_S32768x17_S32768_d1 h_S_) (all 1#32)

/-- The segment kept between 0 and 15. -/
def clip (s : IVec S32768 32) : IVec S32768 32 :=
  minsi (broadcastInDim S32768 ![] bcast_S_S32768 (id (constantI S_ 32 15#32)))
    (maxsi (broadcastInDim S32768 ![] bcast_S_S32768 (id (constantI S_ 32 0#32))) s)

/-- A negative entry number counts from the table's end. -/
def wrap (s : IVec S32768 32) : IVec S32768 32 := select (cmpi .slt s (all 0#32)) (addi s (all 17#32)) s

/-- The table read at every token's entry number. -/
def take (T : IVec S17 32) (s : IVec S32768 32) : IVec S32768 32 :=
  Host.gather gather_S17_S32768x1_S32768_n_0_n_n_0_1_1 T (broadcastInDim S32768x1 ![0] bcast_S32768_S32768x1_0 (wrap s))

/-- The tokens' begins and ends. -/
def begins (T : IVec S17 32) : IVec S32768 32 := take T (clip (segs T))
/-- The tokens' ends. -/
def ends (T : IVec S17 32) : IVec S32768 32 := take T (addi (clip (segs T)) (all 1#32))

/-- The valid tokens. -/
def valid (T : IVec S17 32) : IVec S32768 1 :=
  andi (andi (cmpi .sge (segs T) (all 0#32)) (cmpi .slt (segs T) (all 16#32)))
    (cmpi .slt tokens (addi (begins T) (minsi (subi (ends T) (begins T)) (all 4096#32))))

/-- The whole result from the valid tokens. -/
def result (x y : FVec Ideal S8x32768x128 .f32) (T : IVec S17 32) : FVec Ideal S8x32768 .f32 :=
  select (broadcastInDim S8x32768 ![0, 1] bcast_S1x32768_S8x32768_0_1 (broadcastInDim S1x32768 ![1] bcast_S32768_S1x32768_1 (valid T)))
    (Host.reduceAdd (mulf x y) (constant S_ .f32 0x00000000#32) reducesTo_S8x32768x128_S8x32768_d2 h_S_)
    (broadcastInDim S8x32768 ![] bcast_S_S8x32768 (constant S_ .f32 0x00000000#32))

/-- The reference's composed result is that. -/
theorem result_eq (m : (ℓ : Loc nD τ sig) → Buf (Elt Ideal) ℓ) (c : Dev nD) :
    Cert.ReferenceIdeal.Value.res_main_v42 m c
      = result (m ((c.tc : Thread nD τ).loc main_arg0)) (m ((c.tc : Thread nD τ).loc main_arg1)) (m ((c.tc : Thread nD τ).loc main_arg2)) := rfl

/-- The result at one head and token. -/
theorem result_at (x y : FVec Ideal S8x32768x128 .f32) (T : IVec S17 32) (h : Fin 8) (t : Fin 32768) :
    result x y T (ix2 h t) = Scalar.select (valid T (ix1 t)) (∑ d : Fin 128, x (ix3 h t d) * y (ix3 h t d)) (0 : EReal) := by
  pointwise [result]

/-- The valid bit at one token. -/
theorem valid_at (T : IVec S17 32) (t : Fin 32768) :
    valid T (ix1 t) = IntOp.andi (IntOp.andi (IntOp.cmpi .sge (segs T (ix1 t)) 0#32) (IntOp.cmpi .slt (segs T (ix1 t)) 16#32))
      (IntOp.cmpi .slt (BitVec.ofNat 32 t.val) (IntOp.addi (begins T (ix1 t)) (IntOp.minsi (IntOp.subi (ends T (ix1 t)) (begins T (ix1 t))) 4096#32))) := by
  pointwise [valid, all, tokens]

/-- Clip then wrap at one token, from the segment's word. -/
theorem wrap_at (s : IVec S32768 32) (t : Fin 32768) :
    wrap s (ix1 t) = Scalar.select (IntOp.cmpi .slt (s (ix1 t)) 0#32) (IntOp.addi (s (ix1 t)) 17#32) (s (ix1 t)) := by
  pointwise [wrap, all]

/-- Clip at one token. -/
theorem clip_at (s : IVec S32768 32) (t : Fin 32768) :
    clip s (ix1 t) = IntOp.minsi 15#32 (IntOp.maxsi 0#32 (s (ix1 t))) := by
  pointwise [clip]
  rfl

/-- The bit of offset `q` at token `t`. -/
theorem below_at (T : IVec S17 32) (t : Fin 32768) (q : Fin 17) :
    below T (ix2 t q) = IntOp.cmpi .sle (T (ix1 q)) (BitVec.ofNat 32 t.val) := by
  pointwise [below, tokens]

/-- The segment's word at one token. -/
theorem segs_at (T : IVec S17 32) (t : Fin 32768) : segs T (ix1 t) = BitVec.ofNat 32 (upTo T t.val) - 1#32 := by
  have hc := StableHlo.Predicate.toNat_reduce_count_cols (by decide) (below T) natLt_1_32 reducesTo_S32768x17_S32768_d1 h_S_ (ix1 t)
  have hf : (Finset.univ.filter (fun q : Fin 17 => below T (StableHlo.Predicate.ij ((ix1 t : S32768.Idx) 0) q) = 1#1)).card = upTo T t.val := by
    unfold upTo
    refine congrArg Finset.card (Finset.filter_congr fun q _ => ?_)
    have ht := t.isLt
    have ei : (StableHlo.Predicate.ij ((ix1 t : S32768.Idx) 0) q : S32768x17.Idx) = ix2 t q :=
      funext fun a => match a with | ⟨0, _⟩ => rfl | ⟨1, _⟩ => rfl
    have et : (BitVec.ofNat 32 t.val).toInt = t.val := WordCmp.toInt_ofNat_of_lt (Nat.lt_trans ht (by decide))
    have eo : off T q.val = (T (ix1 q)).toInt := congrArg BitVec.toInt (word_ix T q.val q.isLt).symm
    have e1 : below T (StableHlo.Predicate.ij ((ix1 t : S32768.Idx) 0) q) = IntOp.cmpi .sle (T (ix1 q)) (BitVec.ofNat 32 t.val) :=
      (congrArg (below T) ei).trans (below_at T t q)
    have e2 : (T (ix1 q)).toInt ≤ (BitVec.ofNat 32 t.val).toInt ↔ off T q.val ≤ t.val := iff_of_eq (congrArg₂ (· ≤ ·) eo.symm et)
    exact ((iff_of_eq (congrArg (· = 1#1) e1)).trans IntOp.cmpi_sle).trans e2
  rw [hf] at hc
  have hw := congrArg (BitVec.ofNat 32) hc
  rw [BitVec.ofNat_toNat, BitVec.setWidth_eq] at hw
  show _ - 1#32 = _
  rw [← hw]

/-- The table read at an entry number in range. -/
theorem take_at (T : IVec S17 32) (s : IVec S32768 32) (t : Fin 32768) (k : ℕ) (hk : k < 17) (e : wrap s (ix1 t) = BitVec.ofNat 32 k) :
    take T s (ix1 t) = word T k := by
  rw [← word_ix T k hk]
  refine Routing.gather_take1 gather_S17_S32768x1_S32768_n_0_n_n_0_1_1 rfl rfl rfl rfl T _ t ⟨k, hk⟩ ?_ (by decide)
  refine Eq.trans ?_ e
  pointwise []

/-- Clip and wrap of the segment's word. -/
theorem entry_words : ∀ n : Fin 18, (1 ≤ n.val ∧ n.val ≤ 16) →
    IntOp.minsi 15#32 (IntOp.maxsi 0#32 (BitVec.ofNat 32 n.val - 1#32)) = BitVec.ofNat 32 (n.val - 1)
      ∧ Scalar.select (IntOp.cmpi .slt (BitVec.ofNat 32 (n.val - 1)) 0#32) (IntOp.addi (BitVec.ofNat 32 (n.val - 1)) 17#32) (BitVec.ofNat 32 (n.val - 1)) = BitVec.ofNat 32 (n.val - 1)
      ∧ IntOp.addi (BitVec.ofNat 32 (n.val - 1)) 1#32 = BitVec.ofNat 32 n.val
      ∧ Scalar.select (IntOp.cmpi .slt (BitVec.ofNat 32 n.val) 0#32) (IntOp.addi (BitVec.ofNat 32 n.val) 17#32) (BitVec.ofNat 32 n.val) = BitVec.ofNat 32 n.val := by
  decide

/-- The two range tests on the segment's word. -/
theorem range_words : ∀ n : Fin 18,
    IntOp.andi (IntOp.cmpi .sge (BitVec.ofNat 32 n.val - 1#32) 0#32) (IntOp.cmpi .slt (BitVec.ofNat 32 n.val - 1#32) 16#32)
      = BitVec.ofBool (decide (1 ≤ n.val ∧ n.val ≤ 16)) := by
  decide

/-- A token is valid just when a segment covers it, for sorted offsets. -/
theorem valid_covered {T : IVec S17 32} (s : Sorted T) (t : Fin 32768) :
    valid T (ix1 t) = BitVec.ofBool (covered T (BitVec.ofNat 32 t.val)) := by
  have hn := upTo_le T t.val
  have hc := covered_sorted s t.val t.isLt
  have hr := range_words ⟨upTo T t.val, by omega⟩
  simp only at hr
  rw [valid_at, segs_at, hr]
  by_cases h : 1 ≤ upTo T t.val ∧ upTo T t.val ≤ 16
  · obtain ⟨w0, w1, w2, w3⟩ := entry_words ⟨upTo T t.val, by omega⟩ h
    simp only at w0 w1 w2 w3
    have eb : begins T (ix1 t) = word T (upTo T t.val - 1) :=
      take_at T _ t _ (by omega) (by rw [wrap_at, clip_at, segs_at, w0, w1])
    have ee : ends T (ix1 t) = word T (upTo T t.val) :=
      take_at T _ t _ (by omega) (by
        rw [wrap_at, show addi (clip (segs T)) (all 1#32) (ix1 t) = BitVec.ofNat 32 (upTo T t.val) from
          (show addi (clip (segs T)) (all 1#32) (ix1 t) = IntOp.addi (clip (segs T) (ix1 t)) 1#32 from rfl).trans
            (by rw [clip_at, segs_at, w0, w2]), w3])
    have hb : off T (upTo T t.val - 1) ≤ t.val := (off_le_iff s t.val _ (by omega)).2 (by omega)
    have he : (t.val : ℤ) < off T (upTo T t.val) := not_le.1 fun hx => absurd ((off_le_iff s t.val _ (by omega)).1 hx) (lt_irrefl _)
    have hl := length_iff (word T (upTo T t.val - 1)) (word T (upTo T t.val)) t.val t.isLt (s.nonneg _) hb he
    rw [eb, ee, decide_eq_true h]
    show BitVec.ofBool true &&& BitVec.ofBool _ = _
    rw [BitVec.ofBool_and_ofBool, Bool.true_and]
    refine congrArg BitVec.ofBool (Bool.eq_iff_iff.2 (hl.trans ?_))
    rw [hc]
    exact ⟨fun a => ⟨h.1, h.2, a⟩, fun a => a.2.2⟩
  · rw [decide_eq_false h]
    show BitVec.ofBool false &&& BitVec.ofBool _ = _
    rw [BitVec.ofBool_and_ofBool, Bool.false_and]
    refine congrArg BitVec.ofBool ?_
    rw [eq_comm, Bool.eq_false_iff]
    exact fun a => h ⟨(hc.1 a).1, (hc.1 a).2.1⟩

/-- The reference's result at one head and token, for sorted offsets. -/
theorem result_target (x y : FVec Ideal S8x32768x128 .f32) {T : IVec S17 32} (s : Sorted T) (h : Fin 8) (t : Fin 32768) :
    result x y T (ix2 h t) = target x y T h t := by
  rw [result_at, valid_covered s, select_ofBool]
  rfl

end Cert.Proof.Ref

end

end
-- ==== Proof.Equal.lean ====
/-
  The two programs' results are the same array.
-/
module

public import proofs.«01_k».proof.Defs
public import proofs.«01_k».proof.Proof.ScValue
public import proofs.«01_k».proof.Proof.TcValue
public import proofs.«01_k».proof.Proof.RefValue
public import proofs.«01_k».proof.Proof.Main

@[expose] public section

set_option maxRecDepth 16384

noncomputable section

namespace Cert.Proof

open Cert.KernelIdeal Cert.KernelIdeal.Gen
open Idealize.ShloMosaic Idealize.ShloMosaic.TcCoe Idealize.SL.Sem

variable (m : (ℓ : Loc nD τ sig) → Buf (Elt Ideal) ℓ)

/-- The region's result, from the launch contents. -/
theorem tcOut_target (d : Dev nD) : tcOut m d = tcTarget (inX m d) (inY m d) (offs m d) := by
  have ed : d = 0 := Subsingleton.elim _ _
  subst ed
  refine (tcOut_eq (V3 m) 0).trans ?_
  have e0 : V3 m 0 (Proc.devRef .tc main_arg0) = inX m 0 := V3_keep m 0 _ (by decide) (by decide) (by decide)
  have e1 : V3 m 0 (Proc.devRef .tc main_arg1) = inY m 0 := V3_keep m 0 _ (by decide) (by decide) (by decide)
  have e2 : tbl (V3 m) = offs m 0 := V3_keep m 0 _ (by decide) (by decide) (by decide)
  rw [e0, e1, e2]

/-- The two pieces put together, read at one head and token. -/
theorem joined_at (a : FVec Ideal S8x2048 .f32) (b : FVec Ideal S8x30720 .f32) (h : Fin 8) (t : Fin 32768) :
    joined (F := Ideal) a b (ix2 h t)
      = if g : t.val < 2048 then a (ix2 h ⟨t.val, g⟩) else b (ix2 h ⟨t.val - 2048, by have := t.isLt; omega⟩) := by
  pointwise [joined]

/-- The whole kernel's result at one head and token. -/
theorem kernel_target (d : Dev nD) (h : Fin 8) (t : Fin 32768) :
    joined (F := Ideal) (scOut m d) (tcOut m d) (ix2 h t) = target (inX m d) (inY m d) (offs m d) h t := by
  rw [joined_at]
  by_cases g : t.val < 2048
  · rw [dif_pos g]
    exact scOut_at m d h ⟨t.val, g⟩ t.isLt
  · rw [dif_neg g, tcOut_target]
    show target (inX m d) (inY m d) (offs m d) h _ = _
    exact congrArg (target (inX m d) (inY m d) (offs m d) h) (Fin.ext (show 2048 + (t.val - 2048) = t.val by omega))

/-- For sorted offsets the kernel's array is the reference's. -/
theorem joined_eq (d : Dev nD) (s : Sorted (offs m d)) :
    joined (F := Ideal) (scOut m d) (tcOut m d) = Ref.result (inX m d) (inY m d) (offs m d) := by
  funext j
  rw [eq_ix2 (n0 := 8) (n1 := 32768) j]
  exact (kernel_target m d (j 0) (j 1)).trans (Ref.result_target (inX m d) (inY m d) s (j 0) (j 1)).symm

/-- At ideal values, for sorted offsets, the kernel and the reference end with the same array. -/
theorem equal : Cert.algebraic_KernelIdeal_ReferenceIdeal_pre_sorted_offsets (hKernelIdeal := Cert.KernelIdeal.Gen.facts)
    (hReferenceIdeal := Cert.ReferenceIdeal.Gen.facts) (hPre_sorted_offsets := Cert.Pre_sorted_offsets.Gen.facts) :=
  fun m g m' g' hpre hargs => by
    have hs : ∀ d : Dev nD, Sorted (offs m d) := fun d => sorted_of_pre _ _ _ (hpre d)
    refine ⟨fun c => joined (F := Ideal) (scOut m c) (tcOut m c), ?_, ?_⟩
    · exact (θ_run Cert.KernelIdeal.defs _ _).mono
        (fun r h c => ⟨(h.1 c).2.2.2, (h.1 c).1, (h.1 c).2.1, (h.1 c).2.2.1⟩) (run_main (F := Ideal) m g)
    · refine (θ_run Cert.ReferenceIdeal.defs _ _).mono (fun r h c => ⟨?_, (h c).2⟩) (Cert.ReferenceIdeal.Value.run (F := Ideal) m' g')
      refine (h c).1.trans ((Ref.result_eq m' c).trans ?_)
      rw [(hargs c).1, (hargs c).2.1, (hargs c).2.2]
      exact (joined_eq m c (hs c)).symm

end Cert.Proof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_sorted_offsets
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Everything claimed: each program keeps its arguments and ends quiescent, the idealization is the kernel's own text,
    and for sorted offsets the kernel and the reference end with the same array. -/
theorem claim : Cert.Claim := ⟨Cert.Kernel.Gen.facts, Cert.KernelIdeal.Gen.facts, Cert.ReferenceIdeal.Gen.facts, Cert.Pre_sorted_offsets.Gen.facts,
  frame_kernel, frame_kernelIdeal, fun m ρ _ => frame_kernelIdeal m ρ trivial, frame_reference, fun m ρ _ => frame_reference m ρ trivial, trivial,
  equal⟩

end Cert.Proof

end
